-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_16129" .f32 0x38820610#32 ((1 / 16129 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x4096 : Shape := ⟨3, ![4, 4096, 4096]⟩
abbrev S4096x128 : Shape := ⟨2, ![4096, 128]⟩
abbrev S2x128x64 : Shape := ⟨3, ![2, 128, 64]⟩
abbrev S4x2 : Shape := ⟨2, ![4, 2]⟩
abbrev S64 : Shape := ⟨1, ![64]⟩
abbrev S2x64x64 : Shape := ⟨3, ![2, 64, 64]⟩
abbrev S_ : Shape := ⟨0, ![]⟩

class Facts : Prop where
  bcast_S_S4x4096x4096 : S_.BroadcastsInDim S4x4096x4096 (![] : Fin 0 → Fin S4x4096x4096.rank)
  bcast_S_S4096x128 : S_.BroadcastsInDim S4096x128 (![] : Fin 0 → Fin S4096x128.rank)
  bcast_S_S2x128x64 : S_.BroadcastsInDim S2x128x64 (![] : Fin 0 → Fin S2x128x64.rank)
  bcast_S_S4x2 : S_.BroadcastsInDim S4x2 (![] : Fin 0 → Fin S4x2.rank)

variable [Facts]

def fn {F : FTy → Type} [FloatOps F] (main_arg0 : FVec F S4x4096x4096 .f32) (main_arg1 : FVec F S4096x128 .f32) (main_arg2 : FVec F S2x128x64 .f32) (main_arg3 : FVec F S4x2 .f32) (main_arg4 : FVec F S64 .f32) (main_arg5 : FVec F S2x64x64 .f32) (main_arg6 : FVec F S4x2 .f32) (main_arg7 : FVec F S64 .f32) : IVec S4x4096x4096 1 × IVec S4096x128 1 × IVec S2x128x64 1 × IVec S4x2 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S2x128x64 .f32 := Host.absf main_arg2
  let main_cst_1 : FVec F S_ .f32 := constant S_ .f32 0x7F800000#32
  let main_v7 : FVec F S2x128x64 .f32 := broadcastInDim S2x128x64 ![] bcast_S_S2x128x64 main_cst_1
  let main_v8 : IVec S2x128x64 1 := cmpf .olt main_v6 main_v7
  let main_v9 : FVec F S4x2 .f32 := Host.absf main_arg3
  let main_cst_2 : FVec F S_ .f32 := constant S_ .f32 0x7F800000#32
  let main_v10 : FVec F S4x2 .f32 := broadcastInDim S4x2 ![] bcast_S_S4x2 main_cst_2
  let main_v11 : IVec S4x2 1 := cmpf .olt main_v9 main_v10
  (main_v2, main_v5, main_v8, main_v11)
-- ==== Kernel.lean ====
abbrev S4x4096x4096 : Shape := ⟨3, ![4, 4096, 4096]⟩
abbrev S4096x128 : Shape := ⟨2, ![4096, 128]⟩
abbrev S2x128x64 : Shape := ⟨3, ![2, 128, 64]⟩
abbrev S4x2 : Shape := ⟨2, ![4, 2]⟩
abbrev S64 : Shape := ⟨1, ![64]⟩
abbrev S2x64x64 : Shape := ⟨3, ![2, 64, 64]⟩
abbrev S_ : Shape := ⟨0, ![]⟩
abbrev S2 : Shape := ⟨1, ![2]⟩
abbrev S1x2 : Shape := ⟨2, ![1, 2]⟩
abbrev S1x64 : Shape := ⟨2, ![1, 64]⟩
abbrev S4096x64 : Shape := ⟨2, ![4096, 64]⟩
abbrev S2x4096x4096 : Shape := ⟨3, ![2, 4096, 4096]⟩
abbrev S4x128x4096 : Shape := ⟨3, ![4, 128, 4096]⟩
abbrev S128x64 : Shape := ⟨2, ![128, 64]⟩
abbrev S2x128x4096 : Shape := ⟨3, ![2, 128, 4096]⟩
abbrev S4x4096x64 : Shape := ⟨3, ![4, 4096, 64]⟩
abbrev S1x128x64 : Shape := ⟨3, ![1, 128, 64]⟩
abbrev S1x1 : Shape := ⟨2, ![1, 1]⟩
abbrev S1x4096x64 : Shape := ⟨3, ![1, 4096, 64]⟩
abbrev S1x128x4096 : Shape := ⟨3, ![1, 128, 4096]⟩
abbrev S128x4096 : Shape := ⟨2, ![128, 4096]⟩
abbrev S2x512x4096 : Shape := ⟨3, ![2, 512, 4096]⟩
abbrev S512x64 : Shape := ⟨2, ![512, 64]⟩
abbrev S2x4096x64 : Shape := ⟨3, ![2, 4096, 64]⟩
abbrev S1x64x64 : Shape := ⟨3, ![1, 64, 64]⟩
abbrev S64x64 : Shape := ⟨2, ![64, 64]⟩
abbrev S1 : Shape := ⟨1, ![1]⟩
abbrev S1x1x1 : Shape := ⟨3, ![1, 1, 1]⟩
abbrev S1x512x4096 : Shape := ⟨3, ![1, 512, 4096]⟩
abbrev S512x4096 : Shape := ⟨2, ![512, 4096]⟩

abbrev nBuf : Space → Nat
  | .hbm => 23
  | .vmem => 21
  | .smem => 1
  | _ => 0

abbrev bufTy : (tb : Table) → Fin (tcTables nBuf tb) → BufTy
  | .hbm, ⟨0, _⟩ => ⟨S4x4096x4096, .f32⟩
  | .hbm, ⟨1, _⟩ => ⟨S4096x128, .f32⟩
  | .hbm, ⟨2, _⟩ => ⟨S2x128x64, .f32⟩
  | .hbm, ⟨3, _⟩ => ⟨S4x2, .f32⟩
  | .hbm, ⟨4, _⟩ => ⟨S64, .f32⟩
  | .hbm, ⟨5, _⟩ => ⟨S2x64x64, .f32⟩
  | .hbm, ⟨6, _⟩ => ⟨S4x2, .f32⟩
  | .hbm, ⟨7, _⟩ => ⟨S64, .f32⟩
  | .hbm, ⟨8, _⟩ => ⟨S4x2, .f32⟩
  | .hbm, ⟨9, _⟩ => ⟨S_, .f32⟩
  | .hbm, ⟨10, _⟩ => ⟨S2, .f32⟩
  | .hbm, ⟨11, _⟩ => ⟨S_, .f32⟩
  | .hbm, ⟨12, _⟩ => ⟨S2, .f32⟩
  | .hbm, ⟨13, _⟩ => ⟨S2, .f32⟩
  | .hbm, ⟨14, _⟩ => ⟨S1x2, .f32⟩
  | .hbm, ⟨15, _⟩ => ⟨S4x2, .f32⟩
  | .hbm, ⟨16, _⟩ => ⟨S4x2, .f32⟩
  | .hbm, ⟨17, _⟩ => ⟨S1x64, .f32⟩
  | .hbm, ⟨18, _⟩ => ⟨S4096x64, .f32⟩
  | .hbm, ⟨19, _⟩ => ⟨S2x4096x4096, .i8⟩
  | .hbm, ⟨20, _⟩ => ⟨S1x2, .f32⟩
  | .hbm, ⟨21, _⟩ => ⟨S1x64, .f32⟩
  | .hbm, ⟨22, _⟩ => ⟨S4096x64, .f32⟩
  | .local _ .vmem, ⟨0, _⟩ => ⟨S4x128x4096, .f32⟩
  | .local _ .vmem, ⟨1, _⟩ => ⟨S4x128x4096, .f32⟩
  | .local _ .vmem, ⟨2, _⟩ => ⟨S4096x128, .f32⟩
  | .local _ .vmem, ⟨3, _⟩ => ⟨S2x128x64, .f32⟩
  | .local _ .vmem, ⟨4, _⟩ => ⟨S4x2, .f32⟩
  | .local _ .vmem, ⟨5, _⟩ => ⟨S4x2, .f32⟩
  | .local _ .vmem, ⟨6, _⟩ => ⟨S1x64, .f32⟩
  | .local _ .vmem, ⟨7, _⟩ => ⟨S128x64, .f32⟩
  | .local _ .vmem, ⟨8, _⟩ => ⟨S128x64, .f32⟩
  | .local _ .vmem, ⟨9, _⟩ => ⟨S2x128x4096, .i8⟩
  | .local _ .vmem, ⟨10, _⟩ => ⟨S2x128x4096, .i8⟩
  | .local _ .vmem, ⟨11, _⟩ => ⟨S4x4096x64, .f32⟩
  | .local _ .vmem, ⟨12, _⟩ => ⟨S2x512x4096, .i8⟩
  | .local _ .vmem, ⟨13, _⟩ => ⟨S2x512x4096, .i8⟩
  | .local _ .vmem, ⟨14, _⟩ => ⟨S4096x64, .f32⟩
  | .local _ .vmem, ⟨15, _⟩ => ⟨S2x64x64, .f32⟩
  | .local _ .vmem, ⟨16, _⟩ => ⟨S1x2, .f32⟩
  | .local _ .vmem, ⟨17, _⟩ => ⟨S1x64, .f32⟩
  | .local _ .vmem, ⟨18, _⟩ => ⟨S512x64, .f32⟩
  | .local _ .vmem, ⟨19, _⟩ => ⟨S512x64, .f32⟩
  | .local _ .vmem, ⟨20, _⟩ => ⟨S2x4096x64, .i8⟩
  | .local _ .smem, ⟨0, _⟩ => ⟨S1x2, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v5e

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x4096 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x512x4096 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "inv_16129" => some ((1 / 16129 : ℝ) : EReal)
  | _ => none
-- ==== ReferenceIdeal.lean ====
abbrev S4x4096x4096 : Shape := ⟨3, ![4, 4096, 4096]⟩
abbrev S4096x128 : Shape := ⟨2, ![4096, 128]⟩
abbrev S2x128x64 : Shape := ⟨3, ![2, 128, 64]⟩
abbrev S4x2 : Shape := ⟨2, ![4, 2]⟩
abbrev S64 : Shape := ⟨1, ![64]⟩
abbrev S2x64x64 : Shape := ⟨3, ![2, 64, 64]⟩
abbrev S4x128x64 : Shape := ⟨3, ![4, 128, 64]⟩
abbrev S4x4096x128 : Shape := ⟨3, ![4, 4096, 128]⟩
abbrev S4096x64 : Shape := ⟨2, ![4096, 64]⟩
abbrev S1x64 : Shape := ⟨2, ![1, 64]⟩
abbrev S_ : Shape := ⟨0, ![]⟩
abbrev S2x4096x4096 : Shape := ⟨3, ![2, 4096, 4096]⟩
abbrev S2x64x4096 : Shape := ⟨3, ![2, 64, 4096]⟩
abbrev S2x4096x64 : Shape := ⟨3, ![2, 4096, 64]⟩
abbrev S2 : Shape := ⟨1, ![2]⟩
abbrev S2x1x1 : Shape := ⟨3, ![2, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x128, .f32⟩
  | .hbm, ⟨2, _⟩ => ⟨S2x128x64, .f32⟩
  | .hbm, ⟨3, _⟩ => ⟨S4x2, .f32⟩
  | .hbm, ⟨4, _⟩ => ⟨S64, .f32⟩
  | .hbm, ⟨5, _⟩ => ⟨S2x64x64, .f32⟩
  | .hbm, ⟨6, _⟩ => ⟨S4x2, .f32⟩
  | .hbm, ⟨7, _⟩ => ⟨S64, .f32⟩
  | .hbm, ⟨8, _⟩ => ⟨S4x128x64, .f32⟩
  | .hbm, ⟨9, _⟩ => ⟨S4x4096x128, .f32⟩
  | .hbm, ⟨10, _⟩ => ⟨S4096x64, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S4096x64, .f32⟩
  | .hbm, ⟨16, _⟩ => ⟨S4096x64, .f32⟩
  | .hbm, ⟨17, _⟩ => ⟨S2x4096x4096, .f32⟩
  | .hbm, ⟨18, _⟩ => ⟨S2x64x4096, .f32⟩
  | .hbm, ⟨19, _⟩ => ⟨S2x4096x64, .f32⟩
  | .hbm, ⟨20, _⟩ => ⟨S4x2, .f32⟩
  | .hbm, ⟨21, _⟩ => ⟨S_, .f32⟩
  | .hbm, ⟨22, _⟩ => ⟨S2, .f32⟩
  | .hbm, ⟨23, _⟩ => ⟨S_, .f32⟩
  | .hbm, ⟨24, _⟩ => ⟨S2, .f32⟩
  | .hbm, ⟨25, _⟩ => ⟨S2, .f32⟩
  | .hbm, ⟨26, _⟩ => ⟨S2x1x1, .f32⟩
  | .hbm, ⟨27, _⟩ => ⟨S2x4096x64, .f32⟩
  | .hbm, ⟨28, _⟩ => ⟨S_, .f32⟩
  | .hbm, ⟨29, _⟩ => ⟨S2, .f32⟩
  | .hbm, ⟨30, _⟩ => ⟨S2x1x1, .f32⟩
  | .hbm, ⟨31, _⟩ => ⟨S_, .f32⟩
  | .hbm, ⟨32, _⟩ => ⟨S2x1x1, .f32⟩
  | .hbm, ⟨33, _⟩ => ⟨S2x1x1, .f32⟩
  | .hbm, ⟨34, _⟩ => ⟨S_, .f32⟩
  | .hbm, ⟨35, _⟩ => ⟨S2x1x1, .f32⟩
  | .hbm, ⟨36, _⟩ => ⟨S2x1x1, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x4096x4096, .f32⟩
  | .hbm, ⟨44, _⟩ => ⟨S2x4096x4096, .f32⟩
  | .hbm, ⟨45, _⟩ => ⟨S_, .f32⟩
  | .hbm, ⟨46, _⟩ => ⟨S2x4096x4096, .f32⟩
  | .hbm, ⟨47, _⟩ => ⟨S2x4096x4096, .f32⟩
  | .hbm, ⟨48, _⟩ => ⟨S2x4096x4096, .f32⟩
  | .hbm, ⟨49, _⟩ => ⟨S2x4096x4096, .f32⟩
  | .hbm, ⟨50, _⟩ => ⟨S2x4096x64, .f32⟩
  | .hbm, ⟨51, _⟩ => ⟨S2x4096x64, .f32⟩
  | .hbm, ⟨52, _⟩ => ⟨S2x4096x64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2x4096x64, .f32⟩
  | .hbm, ⟨57, _⟩ => ⟨S2x4096x64, .f32⟩
  | .hbm, ⟨58, _⟩ => ⟨S_, .f32⟩
  | .hbm, ⟨59, _⟩ => ⟨S2x4096x64, .f32⟩
  | .hbm, ⟨60, _⟩ => ⟨S2x4096x64, .f32⟩
  | .hbm, ⟨61, _⟩ => ⟨S2x4096x64, .f32⟩
  | .hbm, ⟨62, _⟩ => ⟨S2x4096x64, .f32⟩
  | .hbm, ⟨63, _⟩ => ⟨S4096x64, .f32⟩
  | .hbm, ⟨64, _⟩ => ⟨S1x64, .f32⟩
  | .hbm, ⟨65, _⟩ => ⟨S4096x64, .f32⟩
  | .hbm, ⟨66, _⟩ => ⟨S4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_cst_7 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩

abbrev nD : Nat := 1
abbrev τ : Topo := Topo.v5e

variable {F : FTy → Type} [FloatOps F]
-- ==== Proof.PhaseOne.lean ====
/- The first kernel's body, run once on whole staging buffers, for any floating-point operations `F`: what it leaves in
   its scratch (at the first point) and in its two outputs, as functions of what the input buffers hold. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.PhaseOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes -/

abbrev rA0 : Rect S4x128x4096 := Rect.unit (s := S4x128x4096) ![0, 0, 0] S1x128x4096.size inb_S4x128x4096_S1x128x4096_0_0_0
abbrev rA1 : Rect S4x128x4096 := Rect.unit (s := S4x128x4096) ![1, 0, 0] S1x128x4096.size inb_S4x128x4096_S1x128x4096_1_0_0
abbrev rA2 : Rect S4x128x4096 := Rect.unit (s := S4x128x4096) ![2, 0, 0] S1x128x4096.size inb_S4x128x4096_S1x128x4096_2_0_0
abbrev rA3 : Rect S4x128x4096 := Rect.unit (s := S4x128x4096) ![3, 0, 0] S1x128x4096.size inb_S4x128x4096_S1x128x4096_3_0_0
abbrev rX : Rect S4096x128 := Rect.unit (s := S4096x128) ![0, 0] S4096x128.size inb_S4096x128_S4096x128_0_0
abbrev rB0 : Rect S2x128x64 := Rect.unit (s := S2x128x64) ![0, 0, 0] S1x128x64.size inb_S2x128x64_S1x128x64_0_0_0
abbrev rB1 : Rect S2x128x64 := Rect.unit (s := S2x128x64) ![1, 0, 0] S1x128x64.size inb_S2x128x64_S1x128x64_1_0_0
abbrev rR : Rect S4x2 := Rect.unit (s := S4x2) ![0, 0] S4x2.size inb_S4x2_S4x2_0_0
abbrev rO : Rect S1x64 := Rect.unit (s := S1x64) ![0, 0] S1x64.size inb_S1x64_S1x64_0_0
abbrev rS0 : Rect S4x4096x64 := Rect.unit (s := S4x4096x64) ![0, 0, 0] S1x4096x64.size inb_S4x4096x64_S1x4096x64_0_0_0
abbrev rS1 : Rect S4x4096x64 := Rect.unit (s := S4x4096x64) ![1, 0, 0] S1x4096x64.size inb_S4x4096x64_S1x4096x64_1_0_0
abbrev rS2 : Rect S4x4096x64 := Rect.unit (s := S4x4096x64) ![2, 0, 0] S1x4096x64.size inb_S4x4096x64_S1x4096x64_2_0_0
abbrev rS3 : Rect S4x4096x64 := Rect.unit (s := S4x4096x64) ![3, 0, 0] S1x4096x64.size inb_S4x4096x64_S1x4096x64_3_0_0
abbrev rH : Rect S128x64 := Rect.unit (s := S128x64) ![0, 0] S128x64.size inb_S128x64_S128x64_0_0
abbrev rQ0 : Rect S2x128x4096 := Rect.unit (s := S2x128x4096) ![0, 0, 0] S1x128x4096.size inb_S2x128x4096_S1x128x4096_0_0_0
abbrev rQ1 : Rect S2x128x4096 := Rect.unit (s := S2x128x4096) ![1, 0, 0] S1x128x4096.size inb_S2x128x4096_S1x128x4096_1_0_0

/-! ## What the body leaves -/

/-- The four stores into the scratch, the last first: relation `r`'s slab is `x` times its combination of the bases. -/
def scrL (x : Vec F S4096x128 .f32) (b : Vec F S2x128x64 .f32) (w : Vec F S4x2 .f32) : List (View.Piece (Elt F) S4x4096x64 .f32) :=
  [⟨rS3, k0_pay9 (View.ld w rR) (k0_pay2 (View.ld x rX) (View.ld b rB0)) (k0_pay3 (View.ld x rX) (View.ld b rB1))⟩,
   ⟨rS2, k0_pay8 (k0_pay6 (View.ld x rX) (View.ld w rR) (View.ld b rB0)) (k0_pay7 (View.ld x rX) (View.ld w rR) (View.ld b rB1))⟩,
   ⟨rS1, k0_pay5 (View.ld x rX) (View.ld w rR) (View.ld b rB0) (View.ld b rB1)⟩,
   ⟨rS0, k0_pay4 (View.ld x rX) (View.ld w rR) (View.ld b rB0) (View.ld b rB1)⟩]

/-- What the first point leaves in the scratch. -/
def scr (x : Vec F S4096x128 .f32) (b : Vec F S2x128x64 .f32) (w : Vec F S4x2 .f32) : Vec F S4x4096x64 .f32 :=
  View.canon (scrL x b w)

/-- The store into the layer's output block, from the block of `A`, the scratch and the bias row. -/
def hidL (a : Vec F S4x128x4096 .f32) (s : Vec F S4x4096x64 .f32) (o : Vec F S1x64 .f32) : List (View.Piece (Elt F) S128x64 .f32) :=
  [⟨rH, k0_pay11 (k0_pay10 (View.ld a rA0) (View.ld s rS0) (View.ld a rA1) (View.ld s rS1) (View.ld a rA2) (View.ld s rS2)
      (View.ld a rA3) (View.ld s rS3)) (View.ld o rO)⟩]

def hid (a : Vec F S4x128x4096 .f32) (s : Vec F S4x4096x64 .f32) (o : Vec F S1x64 .f32) : Vec F S128x64 .f32 :=
  View.canon (hidL a s o)

/-- The two stores into the block of codes, the last first, from the block of `A` and the scaled weights. -/
def codL (a : Vec F S4x128x4096 .f32) (w : Vec F S4x2 .f32) : List (View.Piece (Elt F) S2x128x4096 .i8) :=
  [⟨rQ1, k0_pay1 (k0_pay17 (k0_pay12 (View.ld w rR)) (View.ld a rA0) (View.ld a rA1) (View.ld a rA2) (View.ld a rA3))⟩,
   ⟨rQ0, k0_pay16 (k0_pay13 (View.ld w rR) (View.ld a rA0) (View.ld a rA1) (View.ld a rA2) (View.ld a rA3))
      (k0_pay14 (View.ld w rR) (View.ld a rA0) (View.ld a rA1) (View.ld a rA2) (View.ld a rA3))
      (Scalar.ofBits .f32 0xBF000000#32) (k0_pay15 (F := F))⟩]

def cod (a : Vec F S4x128x4096 .f32) (w : Vec F S4x2 .f32) : Vec F S2x128x4096 .i8 :=
  View.canon (codL a w)

/-! ## Each list covers its buffer -/

theorem scr_cover (x : Vec F S4096x128 .f32) (b : Vec F S2x128x64 .f32) (w : Vec F S4x2 .f32) (y : S4x4096x64.Idx) :
    ∃ p ∈ scrL x b w, y ∈ p.1.set :=
  View.cover_of_tiledL (scrL x b w) S1x4096x64.size (by sl_kernel_rfl) y

theorem hid_cover (a : Vec F S4x128x4096 .f32) (s : Vec F S4x4096x64 .f32) (o : Vec F S1x64 .f32) (y : S128x64.Idx) :
    ∃ p ∈ hidL a s o, y ∈ p.1.set :=
  View.cover_of_tiledL (hidL a s o) S128x64.size (by sl_kernel_rfl) y

theorem cod_cover (a : Vec F S4x128x4096 .f32) (w : Vec F S4x2 .f32) (y : S2x128x4096.Idx) :
    ∃ p ∈ codL a w, y ∈ p.1.set :=
  View.cover_of_tiledL (codL a w) S1x128x4096.size (by sl_kernel_rfl) y

/-! ## Which points take the branch -/

/-- The branch's condition, as the body spells it. -/
abbrev AtStart (i : grid0.Coords) : Prop :=
  (Scalar.cmpi .ne (Scalar.extui (Scalar.cmpi .eq (BitVec.ofNat 32 (i 0).val) 0#32)) 0#32) = 1#1

theorem atStart_iff : ∀ t : Fin cfg0.N, AtStart (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [AtStart, e0]
    have : t.val = 0 ↔ t.val % 32 = 0 := by omega
    rw [this]
    word_cmp
   : ∀ t : Fin grid0.N, AtStart (grid0.coords t) ↔ t.val = 0)

/-! ## The body -/

section Body

variable (c : Dev nD) (i : grid0.Coords)
  (m1 : Memref sig .tc .vmem S4x128x4096 .f32) (h1 : m1.IsWhole) (m2 : Memref sig .tc .vmem S4096x128 .f32) (h2 : m2.IsWhole)
  (m3 : Memref sig .tc .vmem S2x128x64 .f32) (h3 : m3.IsWhole) (m4 : Memref sig .tc .vmem S4x2 .f32) (h4 : m4.IsWhole)
  (m5 : Memref sig .tc .vmem S4x2 .f32) (h5 : m5.IsWhole) (m6 : Memref sig .tc .vmem S1x64 .f32) (h6 : m6.IsWhole)
  (m7 : Memref sig .tc .vmem S128x64 .f32) (h7 : m7.IsWhole) (m8 : Memref sig .tc .vmem S2x128x4096 .i8) (h8 : m8.IsWhole)
  (m9 : Memref sig .tc .vmem S4x4096x64 .f32) (h9 : m9.IsWhole)
  (a : Vec F S4x128x4096 .f32) (x : Vec F S4096x128 .f32) (b : Vec F S2x128x64 .f32) (w v : Vec F S4x2 .f32) (o : Vec F S1x64 .f32)
  (E : Set ℕ)

/-- What every point is given of the inputs and gives back. -/
abbrev ins : sProp 𝕄 :=
  iprop(owns (c : Thread nD τ) m1 fullShare a ∗ owns (c : Thread nD τ) m2 fullShare x ∗ owns (c : Thread nD τ) m3 fullShare b
    ∗ owns (c : Thread nD τ) m4 fullShare w ∗ owns (c : Thread nD τ) m5 fullShare v ∗ owns (c : Thread nD τ) m6 fullShare o)

set_option maxHeartbeats 4000000 in
/-- A point after the first: the scratch is read and left as it was. -/
theorem run_later (s : Vec F S4x4096x64 .f32) (hc : ¬AtStart i) (K : PUnit → sProp 𝕄) :
    iprop(ins c m1 m2 m3 m4 m5 m6 a x b w v o ∗ (∃ d, owns (c : Thread nD τ) m7 fullShare d) ∗ (∃ d, owns (c : Thread nD τ) m8 fullShare d)
        ∗ owns (c : Thread nD τ) m9 fullShare s
        ∗ (iprop(ins c m1 m2 m3 m4 m5 m6 a x b w v o ∗ owns (c : Thread nD τ) m7 fullShare (hid a s o)
            ∗ owns (c : Thread nD τ) m8 fullShare (cod a v) ∗ owns (c : Thread nD τ) m9 fullShare s) -∗ K ⟨⟩))
      ⊢ wp frame (wpE (defs₀ (F := F)) Variants.none c none) E
          (cc0__phase1_body i m1 h1 m2 h2 m3 h3 m4 h4 m5 h5 m6 h6 m7 h7 m8 h8 m9 h9) K := by
  simp only [cc0__phase1_body_eq_skeleton]; unfold cc0__phase1_body_skel
  simp only [k0_part2_eq_skeleton, k0_part1_eq_skeleton, k0_part3_eq_skeleton, k0_part4_eq_skeleton]
  unfold ins owns
  iintro ⟨⟨⟨%f1, %e1, H1⟩, ⟨%f2, %e2, H2⟩, ⟨%f3, %e3, H3⟩, ⟨%f4, %e4, H4⟩, ⟨%f5, %e5, H5⟩, ⟨%f6, %e6, H6⟩⟩,
    ⟨%d7, %f7, -, H7⟩, ⟨%d8, %f8, -, H8⟩, ⟨%f9, %e9, H9⟩, Hk⟩
  subst e1 e2 e3 e4 e5 e6 e9
  sl_exec (disch := first | sl_exact hc)
  sl_step
  iapply Hk
  isplitl [H1 H2 H3 H4 H5 H6]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    iexists f6; isplitr; · ipureintro; rfl
    iexact H6
  isplitl [H7]
  · iexists _; isplitr
    swap; · iexact H7
    ipureintro
    exact View.read_writes_eq_canon _ _ _ (hid_cover _ _ _)
  isplitl [H8]
  · iexists _; isplitr
    swap; · iexact H8
    ipureintro
    exact View.read_writes_eq_canon _ _ _ (cod_cover _ _)
  iexists f9; isplitr; · ipureintro; rfl
  iexact H9

set_option maxHeartbeats 4000000 in
/-- The first point: the scratch, at anything before, is filled, and read as filled. -/
theorem run_first (hc : AtStart i) (K : PUnit → sProp 𝕄) :
    iprop(ins c m1 m2 m3 m4 m5 m6 a x b w v o ∗ (∃ d, owns (c : Thread nD τ) m7 fullShare d) ∗ (∃ d, owns (c : Thread nD τ) m8 fullShare d)
        ∗ (∃ d, owns (c : Thread nD τ) m9 fullShare d)
        ∗ (iprop(ins c m1 m2 m3 m4 m5 m6 a x b w v o ∗ owns (c : Thread nD τ) m7 fullShare (hid a (scr x b w) o)
            ∗ owns (c : Thread nD τ) m8 fullShare (cod a v) ∗ owns (c : Thread nD τ) m9 fullShare (scr x b w)) -∗ K ⟨⟩))
      ⊢ wp frame (wpE (defs₀ (F := F)) Variants.none c none) E
          (cc0__phase1_body i m1 h1 m2 h2 m3 h3 m4 h4 m5 h5 m6 h6 m7 h7 m8 h8 m9 h9) K := by
  simp only [cc0__phase1_body_eq_skeleton]; unfold cc0__phase1_body_skel
  simp only [k0_part2_eq_skeleton, k0_part1_eq_skeleton, k0_part3_eq_skeleton, k0_part4_eq_skeleton]
  unfold ins owns
  iintro ⟨⟨⟨%f1, %e1, H1⟩, ⟨%f2, %e2, H2⟩, ⟨%f3, %e3, H3⟩, ⟨%f4, %e4, H4⟩, ⟨%f5, %e5, H5⟩, ⟨%f6, %e6, H6⟩⟩,
    ⟨%d7, %f7, -, H7⟩, ⟨%d8, %f8, -, H8⟩, ⟨%d9, %f9, -, H9⟩, Hk⟩
  subst e1 e2 e3 e4 e5 e6
  sl_exec (disch := first | sl_exact hc)
  sl_step
  iapply Hk
  isplitl [H1 H2 H3 H4 H5 H6]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    iexists f6; isplitr; · ipureintro; rfl
    iexact H6
  isplitl [H7]
  · iexists _; isplitr
    swap; · iexact H7
    ipureintro
    have cov := scr_cover (View.read (Elt F) m2.view f2) (View.read (Elt F) m3.view f3) (View.read (Elt F) m4.view f4)
    have q0 : run_first.sl.v5 c m2 m3 m4 m9 f2 f3 f4 = View.ld (scr (View.read (Elt F) m2.view f2) (View.read (Elt F) m3.view f3)
        (View.read (Elt F) m4.view f4)) rS0 := View.readCov_eq_canon_ld m9.view (scrL _ _ _) rS0 cov
    have q1 : run_first.sl.v10 c m2 m3 m4 m9 f2 f3 f4 = View.ld (scr (View.read (Elt F) m2.view f2) (View.read (Elt F) m3.view f3)
        (View.read (Elt F) m4.view f4)) rS1 := View.readCov_eq_canon_ld m9.view (scrL _ _ _) rS1 cov
    have q2 : run_first.sl.v16 c m2 m3 m4 m9 f2 f3 f4 = View.ld (scr (View.read (Elt F) m2.view f2) (View.read (Elt F) m3.view f3)
        (View.read (Elt F) m4.view f4)) rS2 := View.readCov_eq_canon_ld m9.view (scrL _ _ _) rS2 cov
    have q3 : run_first.sl.v22 c m2 m3 m4 m9 f2 f3 f4 = View.ld (scr (View.read (Elt F) m2.view f2) (View.read (Elt F) m3.view f3)
        (View.read (Elt F) m4.view f4)) rS3 := View.readCov_eq_canon_ld m9.view (scrL _ _ _) rS3 cov
    unfold run_first.sl.r_1
    rw [q0, q1, q2, q3]
    exact View.read_writes_eq_canon _ _ _ (hid_cover _ _ _)
  isplitl [H8]
  · iexists _; isplitr
    swap; · iexact H8
    ipureintro
    exact View.read_writes_eq_canon _ _ _ (cod_cover _ _)
  iexists _; isplitr
  swap; · iexact H9
  ipureintro
  exact View.read_writes_eq_canon _ _ _ (scr_cover _ _ _)

end Body

end Cert.PhaseOne

end
-- ==== Proof.RegionOne.lean ====
/- The first call as a pipeline, at any contents `V` of the buffers it finds: what each staging buffer holds around each
   point, and what the scratch carries from the first point to the last. -/
module

public import proofs.«01_k».proof.Proof.PhaseOne

@[expose] public section

set_option maxRecDepth 16384

noncomputable section

namespace Cert.RegionOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the buffers hold when the region is entered
variable (V : (c : Dev nD) → (b : Ref sig .tc) → Buf (Elt F) ((c : Thread nD τ).loc b))

/-- The block of window `w` at point `t`, as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point. -/
def start : Fin cfg0.N := ⟨0, by have h : cfg0.N = 32 := N_0; omega⟩

/-! ## The scratch carried from point to point -/

/-- What the first point leaves in the scratch. -/
def kept_s (c : Dev nD) : Vec F S4x4096x64 .f32 :=
  PhaseOne.scr (blk V c 1 start) (blk V c 2 start) (blk V c 3 start)

/-- The scratch at anything. -/
abbrev loose (c : Dev nD) : sProp 𝕄 := iprop((∃ d, owns (c : Thread nD τ) (Memref.whole cc0_scratch0) fullShare d))

/-- The scratch taken out of the buffers the region does not stage, with leave to put it back at anything. -/
theorem take (c : Dev nD) :
    (Pipeline.scopedRest (Ix := Unit) (Name := ℕ) (U := UR sig nD τ) (Lvl := ℕ) (Val := Elt F) spec0 c : sProp 𝕄)
      ⊢ iprop(loose c ∗ (loose c -∗ Pipeline.scopedRest (Ix := Unit) (Name := ℕ) (U := UR sig nD τ) (Lvl := ℕ) (Val := Elt F) spec0 c)) := by
  rw [scopedRest0_eq]
  simp only [loose, owns_whole]
  iintro ⟨H, Hr⟩
  isplitl [H]; · iexact H
  iintro H
  isplitl [H]; · iexact H
  iexact Hr

/-- The scratch at what the first point leaves in it. -/
abbrev kept (c : Dev nD) : sProp 𝕄 := iprop(owns (c : Thread nD τ) (Memref.whole cc0_scratch0) fullShare (kept_s V c))

/-- Between two points: the scratch as the first point left it, and what else the region carries. -/
def inv (c : Dev nD) : ℕ → sProp 𝕄
  | 0 => Pipeline.ΦA spec0 c
  | _ + 1 => iprop((kept V c ∗ (loose c -∗ Pipeline.scopedRest (Ix := Unit) (Name := ℕ) (U := UR sig nD τ) (Lvl := ℕ) (Val := Elt F) spec0 c))
      ∗ ∃ r, prngReg c r)

theorem inv_later (c : Dev nD) {n : ℕ} (h : n ≠ 0) : inv V c n = inv V c 1 := by
  cases n with
  | zero => exact absurd rfl h
  | succ n => rfl

/-- What the region carries gives the class's invariant back. -/
theorem inv_out (c : Dev nD) : inv V c 1 ⊢ Pipeline.ΦA spec0 c := by
  unfold inv Pipeline.ΦA
  iintro ⟨⟨Hs, Hr⟩, Hp⟩
  isplitl [Hs Hr]
  · iapply Hr; iexists _; iexact Hs
  iexact Hp

/-! ## The proof data -/

/-- The arrays as found; after the body the inputs' buffers as they were and each output's at the body's value. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => PhaseOne.hid (blk V c 0 t) (kept_s V c) (blk V c 5 t)
    | ⟨7, _⟩ => PhaseOne.cod (blk V c 0 t) (blk V c 4 t)
  Φ t := inv V c t.val
  q _ := fullShare
  owed _ := 0

theorem A_eq (c : Dev nD) (w : Fin cfg0.W) : (dat V c).A w = V c (Pipeline.arrRef spec0 w) := by dsimp only [dat]
theorem Φ_eq (c : Dev nD) (t : Fin (cfg0.N + 1)) : (dat V c).Φ t = inv V c t.val := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = PhaseOne.hid (blk V c 0 t) (kept_s V c) (blk V c 5 t) := by dsimp only [dat]
theorem after_7 (c : Dev nD) (t : Fin cfg0.N) : (dat V c).after 7 t = PhaseOne.cod (blk V c 0 t) (blk V c 4 t) := by dsimp only [dat]

/-! Every input's buffer holds its block when the body starts. -/

theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem before_5 (c : Dev nD) (t : Fin cfg0.N) (d) : (dat V c).before 5 t d = blk V c 5 t :=
  ((dat V c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)

/-! ## The body at a point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 4000000 in
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).owesAt () t.succ = (dat V c).owesAt () t.castSucc from rfl, Φ_eq, Φ_eq,
    after_0, after_1, after_2, after_3, after_4, after_5, after_6, after_7,
    show inv V c t.succ.val = inv V c 1 from inv_later V c (Nat.succ_ne_zero _),
    show t.castSucc.val = t.val from rfl]
  by_cases hz : t.val = 0
  · have ht : t = start := Fin.ext hz
    subst ht
    rw [show inv V c (start).val = Pipeline.ΦA spec0 c from rfl]
    unfold inv Pipeline.ΦA
    iintro ⟨⟨Hall, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave Hall := (take c) $$ Hall
    icases Hall with ⟨Hs, Hr⟩
    iapply (PhaseOne.run_first c (grid0.coords start) _ _ _ _ _ _ _ _ _ _ _ _ _ _ _ _ _ (Memref.isWhole_whole _) (blk V c 0 start) (blk V c 1 start) (blk V c 2 start) (blk V c 3 start) (blk V c 4 start) (blk V c 5 start) Set.univ
      ((PhaseOne.atStart_iff start).mpr rfl) _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [Hs]; · iexact Hs
    iintro ⟨⟨H0, H1, H2, H3, H4, H5⟩, H6, H7, Hs⟩
    isplitl [Hs Hr Hp]
    · isplitl [Hs Hr]
      · isplitl [Hs]
        · iexact Hs
        iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_later V c hz]
    unfold inv
    iintro ⟨⟨⟨Hs, Hr⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (PhaseOne.run_later c (grid0.coords t) _ _ _ _ _ _ _ _ _ _ _ _ _ _ _ _ _ (Memref.isWhole_whole _) (blk V c 0 t) (blk V c 1 t) (blk V c 2 t) (blk V c 3 t) (blk V c 4 t) (blk V c 5 t) Set.univ
      (kept_s V c) (fun h => hz ((PhaseOne.atStart_iff t).mp h)) _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [Hs]; · iexact Hs
    iintro ⟨⟨H0, H1, H2, H3, H4, H5⟩, H6, H7, Hs⟩
    isplitl [Hs Hr Hp]
    · isplitl [Hs Hr]
      · isplitl [Hs]
        · iexact Hs
        iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The row of the body table at a point is the body there. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) V c) (defs₀ (F := F)) Variants.none () Set.univ := fun t => by
  rw [bigSep_W0, bigSep_W0, row]
  exact triple_restated (body_at V c t) rfl .rfl fun _ => .rfl

theorem dat_in (c : Dev nD) : Pipeline.ΦA spec0 c ⊢ (dat V c).Φ 0 := by
  rw [Φ_eq]; exact Idealize.SL.BI.Entails.refl _

theorem dat_out (c : Dev nD) : (dat V c).Φ (Fin.last cfg0.N) ⊢ Pipeline.ΦA spec0 c := by
  rw [Φ_eq, inv_later V c (by rw [Fin.val_last]; have h : cfg0.N = 32 := N_0; omega)]
  exact inv_out V c

end Cert.RegionOne

end
-- ==== Proof.PhaseTwo.lean ====
/- The second kernel's body, run once on whole staging buffers, for any floating-point operations `F`: what it leaves in
   its two scratch buffers (at the first point) and in its output, as functions of what the input buffers hold. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.PhaseTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes -/

abbrev rQ0 : Rect S2x512x4096 := Rect.unit (s := S2x512x4096) ![0, 0, 0] S1x512x4096.size inb_S2x512x4096_S1x512x4096_0_0_0
abbrev rQ1 : Rect S2x512x4096 := Rect.unit (s := S2x512x4096) ![1, 0, 0] S1x512x4096.size inb_S2x512x4096_S1x512x4096_1_0_0
abbrev rH : Rect S4096x64 := Rect.unit (s := S4096x64) ![0, 0] S4096x64.size inb_S4096x64_S4096x64_0_0
abbrev rW0 : Rect S2x64x64 := Rect.unit (s := S2x64x64) ![0, 0, 0] S1x64x64.size inb_S2x64x64_S1x64x64_0_0_0
abbrev rW1 : Rect S2x64x64 := Rect.unit (s := S2x64x64) ![1, 0, 0] S1x64x64.size inb_S2x64x64_S1x64x64_1_0_0
abbrev rA0 : Rect S1x2 := Rect.unit (s := S1x2) ![0, 0] S1x1.size inb_S1x2_S1x1_0_0
abbrev rA1 : Rect S1x2 := Rect.unit (s := S1x2) ![0, 1] S1x1.size inb_S1x2_S1x1_0_1
abbrev rB : Rect S1x64 := Rect.unit (s := S1x64) ![0, 0] S1x64.size inb_S1x64_S1x64_0_0
abbrev rO : Rect S512x64 := Rect.unit (s := S512x64) ![0, 0] S512x64.size inb_S512x64_S512x64_0_0
abbrev rC0 : Rect S2x4096x64 := Rect.unit (s := S2x4096x64) ![0, 0, 0] S1x4096x64.size inb_S2x4096x64_S1x4096x64_0_0_0
abbrev rC1 : Rect S2x4096x64 := Rect.unit (s := S2x4096x64) ![1, 0, 0] S1x4096x64.size inb_S2x4096x64_S1x4096x64_1_0_0

/-! ## What the body leaves -/

/-- The two stores of the codes of the projections, the last first. -/
def prjL (h : Vec F S4096x64 .f32) (w : Vec F S2x64x64 .f32) : List (View.Piece (Elt F) S2x4096x64 .i8) :=
  [⟨rC1, k1_pay2 (k1_pay10 (View.ld h rH) (View.ld w rW1)) (k1_pay11 (View.ld h rH) (View.ld w rW1))⟩,
   ⟨rC0, k1_pay8 (View.ld h rH) (View.ld w rW0)⟩]

/-- What the first point leaves in the scratch of codes. -/
def prj (h : Vec F S4096x64 .f32) (w : Vec F S2x64x64 .f32) : Vec F S2x4096x64 .i8 := View.canon (prjL h w)

/-- The two stores of the products' scales, the last first. -/
def sclL (h : Vec F S4096x64 .f32) (w : Vec F S2x64x64 .f32) (s : Vec F S1x2 .f32) : List (View.Piece (Elt F) S1x2 .f32) :=
  [⟨rA1, fun _ => k1_pay3 (k1_pay11 (View.ld h rH) (View.ld w rW1)) (View.ld s rA1)⟩,
   ⟨rA0, fun _ => k1_pay9 (View.ld h rH) (View.ld w rW0) (View.ld s rA0)⟩]

/-- What the first point leaves in the scratch of scales. -/
def scl (h : Vec F S4096x64 .f32) (w : Vec F S2x64x64 .f32) (s : Vec F S1x2 .f32) : Vec F S1x2 .f32 := View.canon (sclL h w s)

/-- The one element of a scratch of scales at a rectangle of one element. -/
abbrev cell (z : Vec F S1x2 .f32) (r : Rect S1x2) (h : r.shape.numel = 1) : Elt F .f32 :=
  View.ld z r (Shape.Idx.first (h.symm ▸ Nat.one_pos))

/-- The store into the output block, from the block of codes of the mixed adjacency, the codes of the projections, their
    scales and the bias row. -/
def outL (q : Vec F S2x512x4096 .i8) (p : Vec F S2x4096x64 .i8) (z : Vec F S1x2 .f32) (b : Vec F S1x64 .f32) :
    List (View.Piece (Elt F) S512x64 .f32) :=
  [⟨rO, k1_pay4 (View.ld q rQ0) (View.ld p rC0) (cell z rA0 numel1_S1x1) (View.ld q rQ1) (View.ld p rC1)
      (cell z rA1 numel1_S1x1) (View.ld b rB)⟩]

def out (q : Vec F S2x512x4096 .i8) (p : Vec F S2x4096x64 .i8) (z : Vec F S1x2 .f32) (b : Vec F S1x64 .f32) : Vec F S512x64 .f32 :=
  View.canon (outL q p z b)

theorem cell_one (h : Vec F S4096x64 .f32) (w : Vec F S2x64x64 .f32) (s : Vec F S1x2 .f32) :
    cell (scl h w s) rA1 numel1_S1x1 = k1_pay3 (k1_pay11 (View.ld h rH) (View.ld w rW1)) (View.ld s rA1) :=
  View.canon_cons_emb (Val := Elt F) rA1 _ _ _

theorem cell_zero (h : Vec F S4096x64 .f32) (w : Vec F S2x64x64 .f32) (s : Vec F S1x2 .f32) :
    cell (scl h w s) rA0 numel1_S1x1 = k1_pay9 (View.ld h rH) (View.ld w rW0) (View.ld s rA0) :=
  (View.canon_cons_of_not_mem (Val := Elt F) _ _ (by
    rw [Rect.mem_set_unit]; intro k; have := (k 1).1
    revert this; decide)).trans (View.canon_cons_emb (Val := Elt F) rA0 _ _ _)

/-! ## Each list covers its buffer -/

theorem prj_cover (h : Vec F S4096x64 .f32) (w : Vec F S2x64x64 .f32) (y : S2x4096x64.Idx) : ∃ p ∈ prjL h w, y ∈ p.1.set :=
  View.cover_of_tiledL (prjL h w) S1x4096x64.size (by sl_kernel_rfl) y

theorem scl_cover (h : Vec F S4096x64 .f32) (w : Vec F S2x64x64 .f32) (s : Vec F S1x2 .f32) (y : S1x2.Idx) : ∃ p ∈ sclL h w s, y ∈ p.1.set :=
  View.cover_of_tiledL (sclL h w s) S1x1.size (by sl_kernel_rfl) y

theorem out_cover (q : Vec F S2x512x4096 .i8) (p : Vec F S2x4096x64 .i8) (z : Vec F S1x2 .f32) (b : Vec F S1x64 .f32) (y : S512x64.Idx) :
    ∃ r ∈ outL q p z b, y ∈ r.1.set :=
  View.cover_of_tiledL (outL q p z b) S512x64.size (by sl_kernel_rfl) y

/-! ## Which points take the branch -/

/-- The branch's condition, as the body spells it. -/
abbrev AtStart (i : grid1.Coords) : Prop :=
  (Scalar.cmpi .ne (Scalar.extui (Scalar.cmpi .eq (BitVec.ofNat 32 (i 0).val) 0#32)) 0#32) = 1#1

theorem atStart_iff : ∀ t : Fin cfg1.N, AtStart (grid1.coords t) ↔ t.val = 0 :=
  (fun t => by
    have ht : t.val < 8 := Nat.lt_of_lt_of_eq t.isLt N_1
    have e0 : (grid1.coords t 0).val = t.val / 1 % 8 := Pipeline.Grid.coords_val t 0 (by decide) rfl
    simp only [AtStart, e0]
    have : t.val = 0 ↔ t.val % 8 = 0 := by omega
    rw [this]
    word_cmp
   : ∀ t : Fin grid1.N, AtStart (grid1.coords t) ↔ t.val = 0)

/-! ## The body -/

section Body

variable (c : Dev nD) (i : grid1.Coords)
  (m1 : Memref sig .tc .vmem S2x512x4096 .i8) (h1 : m1.IsWhole) (m2 : Memref sig .tc .vmem S4096x64 .f32) (h2 : m2.IsWhole)
  (m3 : Memref sig .tc .vmem S2x64x64 .f32) (h3 : m3.IsWhole) (m4 : Memref sig .tc .vmem S1x2 .f32) (h4 : m4.IsWhole)
  (m5 : Memref sig .tc .vmem S1x64 .f32) (h5 : m5.IsWhole) (m6 : Memref sig .tc .vmem S512x64 .f32) (h6 : m6.IsWhole)
  (m7 : Memref sig .tc .vmem S2x4096x64 .i8) (h7 : m7.IsWhole) (m8 : Memref sig .tc .smem S1x2 .f32) (h8 : m8.IsWhole)
  (q : Vec F S2x512x4096 .i8) (h : Vec F S4096x64 .f32) (w : Vec F S2x64x64 .f32) (s : Vec F S1x2 .f32) (b : Vec F S1x64 .f32)
  (E : Set ℕ)

/-- What every point is given of the inputs and gives back. -/
abbrev ins : sProp 𝕄 :=
  iprop(owns (c : Thread nD τ) m1 fullShare q ∗ owns (c : Thread nD τ) m2 fullShare h ∗ owns (c : Thread nD τ) m3 fullShare w
    ∗ owns (c : Thread nD τ) m4 fullShare s ∗ owns (c : Thread nD τ) m5 fullShare b)

set_option maxHeartbeats 4000000 in
/-- A point after the first: the scratch buffers are read and left as they were. -/
theorem run_later (p : Vec F S2x4096x64 .i8) (z : Vec F S1x2 .f32) (hc : ¬AtStart i) (K : PUnit → sProp 𝕄) :
    iprop(ins c m1 m2 m3 m4 m5 q h w s b ∗ (∃ d, owns (c : Thread nD τ) m6 fullShare d)
        ∗ owns (c : Thread nD τ) m7 fullShare p ∗ owns (c : Thread nD τ) m8 fullShare z
        ∗ (iprop(ins c m1 m2 m3 m4 m5 q h w s b ∗ owns (c : Thread nD τ) m6 fullShare (out q p z b)
            ∗ owns (c : Thread nD τ) m7 fullShare p ∗ owns (c : Thread nD τ) m8 fullShare z) -∗ K ⟨⟩))
      ⊢ wp frame (wpE (defs₀ (F := F)) Variants.none c none) E
          (cc1__phase2_body i m1 h1 m2 h2 m3 h3 m4 h4 m5 h5 m6 h6 m7 h7 m8 h8) K := by
  simp only [cc1__phase2_body_eq_skeleton]; unfold cc1__phase2_body_skel
  simp only [k1_part1_eq_skeleton]
  unfold ins owns
  iintro ⟨⟨⟨%f1, %e1, H1⟩, ⟨%f2, %e2, H2⟩, ⟨%f3, %e3, H3⟩, ⟨%f4, %e4, H4⟩, ⟨%f5, %e5, H5⟩⟩,
    ⟨%d6, %f6, -, H6⟩, ⟨%f7, %e7, H7⟩, ⟨%f8, %e8, H8⟩, Hk⟩
  subst e1 e2 e3 e4 e5 e7 e8
  sl_exec (disch := first | sl_exact hc)
  sl_step
  iapply Hk
  isplitl [H1 H2 H3 H4 H5]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6]
  · iexists _; isplitr
    swap; · iexact H6
    ipureintro
    exact View.read_writes_eq_canon _ _ _ (out_cover _ _ _ _)
  isplitl [H7]
  · iexists f7; isplitr; · ipureintro; rfl
    iexact H7
  iexists f8; isplitr; · ipureintro; rfl
  iexact H8

set_option maxHeartbeats 4000000 in
/-- The first point: the scratch buffers, at anything before, are filled, and read as filled. -/
theorem run_first (hc : AtStart i) (K : PUnit → sProp 𝕄) :
    iprop(ins c m1 m2 m3 m4 m5 q h w s b ∗ (∃ d, owns (c : Thread nD τ) m6 fullShare d)
        ∗ (∃ d, owns (c : Thread nD τ) m7 fullShare d) ∗ (∃ d, owns (c : Thread nD τ) m8 fullShare d)
        ∗ (iprop(ins c m1 m2 m3 m4 m5 q h w s b ∗ owns (c : Thread nD τ) m6 fullShare (out q (prj h w) (scl h w s) b)
            ∗ owns (c : Thread nD τ) m7 fullShare (prj h w) ∗ owns (c : Thread nD τ) m8 fullShare (scl h w s)) -∗ K ⟨⟩))
      ⊢ wp frame (wpE (defs₀ (F := F)) Variants.none c none) E
          (cc1__phase2_body i m1 h1 m2 h2 m3 h3 m4 h4 m5 h5 m6 h6 m7 h7 m8 h8) K := by
  simp only [cc1__phase2_body_eq_skeleton]; unfold cc1__phase2_body_skel
  simp only [k1_part1_eq_skeleton]
  unfold ins owns
  iintro ⟨⟨⟨%f1, %e1, H1⟩, ⟨%f2, %e2, H2⟩, ⟨%f3, %e3, H3⟩, ⟨%f4, %e4, H4⟩, ⟨%f5, %e5, H5⟩⟩,
    ⟨%d6, %f6, -, H6⟩, ⟨%d7, %f7, -, H7⟩, ⟨%d8, %f8, -, H8⟩, Hk⟩
  subst e1 e2 e3 e4 e5
  sl_exec (disch := first | sl_exact hc)
  sl_step
  iapply Hk
  isplitl [H1 H2 H3 H4 H5]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6]
  · iexists _; isplitr
    swap; · iexact H6
    ipureintro
    have cov := prj_cover (View.read (Elt F) m2.view f2) (View.read (Elt F) m3.view f3)
    have q0 : run_first.sl.v5 c m2 m3 m7 f2 f3 = View.ld (prj (View.read (Elt F) m2.view f2) (View.read (Elt F) m3.view f3)) rC0 :=
      View.readCov_eq_canon_ld m7.view (prjL _ _) rC0 cov
    have q1 : run_first.sl.v14 c m2 m3 m7 f2 f3 = View.ld (prj (View.read (Elt F) m2.view f2) (View.read (Elt F) m3.view f3)) rC1 :=
      View.readCov_eq_canon_ld m7.view (prjL _ _) rC1 cov
    have q2 : run_first.sl.r_4 c m2 m3 m4 f2 f3 f4 = cell (scl (View.read (Elt F) m2.view f2) (View.read (Elt F) m3.view f3)
        (View.read (Elt F) m4.view f4)) rA0 numel1_S1x1 := (cell_zero _ _ _).symm
    have q3 : run_first.sl.r_5 c m2 m3 m4 f2 f3 f4 = cell (scl (View.read (Elt F) m2.view f2) (View.read (Elt F) m3.view f3)
        (View.read (Elt F) m4.view f4)) rA1 numel1_S1x1 := (cell_one _ _ _).symm
    rw [q0, q1, q2, q3]
    exact View.read_writes_eq_canon _ _ _ (out_cover _ _ _ _)
  isplitl [H7]
  · iexists _; isplitr
    swap; · iexact H7
    ipureintro
    exact View.read_writes_eq_canon _ _ _ (prj_cover _ _)
  iexists _; isplitr
  swap; · iexact H8
  ipureintro
  exact View.read_writes_eq_canon _ _ _ (scl_cover _ _ _)

end Body

end Cert.PhaseTwo

end
-- ==== Proof.RegionTwo.lean ====
/- The second call as a pipeline, at any contents `V` of the buffers it finds: what each staging buffer holds around each
   point, and what the two scratch buffers carry from the first point to the last. -/
module

public import proofs.«01_k».proof.Proof.PhaseTwo

@[expose] public section

set_option maxRecDepth 16384

noncomputable section

namespace Cert.RegionTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the buffers hold when the region is entered
variable (V : (c : Dev nD) → (b : Ref sig .tc) → Buf (Elt F) ((c : Thread nD τ).loc b))

/-- The block of window `w` at point `t`, as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point. -/
def start : Fin cfg1.N := ⟨0, by have h : cfg1.N = 8 := N_1; omega⟩

/-! ## The scratch carried from point to point -/

/-- The codes the first point leaves in the scratch. -/
def kept_p (c : Dev nD) : Vec F S2x4096x64 .i8 :=
  PhaseTwo.prj (blk V c 1 start) (blk V c 2 start)

/-- The scales the first point leaves in the scratch. -/
def kept_z (c : Dev nD) : Vec F S1x2 .f32 :=
  PhaseTwo.scl (blk V c 1 start) (blk V c 2 start) (blk V c 3 start)

/-- The scratch at anything. -/
abbrev loose (c : Dev nD) : sProp 𝕄 := iprop((∃ d, owns (c : Thread nD τ) (Memref.whole cc1_scratch0) fullShare d) ∗ (∃ d, owns (c : Thread nD τ) (Memref.whole cc1_scratch1) fullShare d))

/-- The scratch taken out of the buffers the region does not stage, with leave to put it back at anything. -/
theorem take (c : Dev nD) :
    (Pipeline.scopedRest (Ix := Unit) (Name := ℕ) (U := UR sig nD τ) (Lvl := ℕ) (Val := Elt F) spec1 c : sProp 𝕄)
      ⊢ iprop(loose c ∗ (loose c -∗ Pipeline.scopedRest (Ix := Unit) (Name := ℕ) (U := UR sig nD τ) (Lvl := ℕ) (Val := Elt F) spec1 c)) := by
  rw [scopedRest1_eq]
  simp only [loose, owns_whole]
  iintro ⟨R0, R1, R2, R3, R4, R5, R6, R7, R8, R9, R10, R11, Hp, Hz⟩
  isplitl [Hp Hz]
  · isplitl [Hp]; · iexact Hp
    iexact Hz
  iintro ⟨Hp, Hz⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [Hp]; · iexact Hp
  iexact Hz

/-- The scratch at what the first point leaves in it. -/
abbrev kept (c : Dev nD) : sProp 𝕄 := iprop(owns (c : Thread nD τ) (Memref.whole cc1_scratch0) fullShare (kept_p V c) ∗ owns (c : Thread nD τ) (Memref.whole cc1_scratch1) fullShare (kept_z V c))

/-- Between two points: the scratch as the first point left it, and what else the region carries. -/
def inv (c : Dev nD) : ℕ → sProp 𝕄
  | 0 => Pipeline.ΦA spec1 c
  | _ + 1 => iprop((kept V c ∗ (loose c -∗ Pipeline.scopedRest (Ix := Unit) (Name := ℕ) (U := UR sig nD τ) (Lvl := ℕ) (Val := Elt F) spec1 c))
      ∗ ∃ r, prngReg c r)

theorem inv_later (c : Dev nD) {n : ℕ} (h : n ≠ 0) : inv V c n = inv V c 1 := by
  cases n with
  | zero => exact absurd rfl h
  | succ n => rfl

/-- What the region carries gives the class's invariant back. -/
theorem inv_out (c : Dev nD) : inv V c 1 ⊢ Pipeline.ΦA spec1 c := by
  unfold inv Pipeline.ΦA
  iintro ⟨⟨⟨Hs, Hz⟩, Hr⟩, Hp⟩
  isplitl [Hs Hz Hr]
  · iapply Hr
    isplitl [Hs]; · iexists _; iexact Hs
    iexists _; iexact Hz
  iexact Hp

/-! ## The proof data -/

/-- The arrays as found; after the body the inputs' buffers as they were and each output's at the body's value. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => PhaseTwo.out (blk V c 0 t) (kept_p V c) (kept_z V c) (blk V c 4 t)
  Φ t := inv V c t.val
  q _ := fullShare
  owed _ := 0

theorem A_eq (c : Dev nD) (w : Fin cfg1.W) : (dat V c).A w = V c (Pipeline.arrRef spec1 w) := by dsimp only [dat]
theorem Φ_eq (c : Dev nD) (t : Fin (cfg1.N + 1)) : (dat V c).Φ t = inv V c t.val := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = PhaseTwo.out (blk V c 0 t) (kept_p V c) (kept_z V c) (blk V c 4 t) := by dsimp only [dat]

/-! Every input's buffer holds its block when the body starts. -/

theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg1.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body at a point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 4000000 in
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl, Φ_eq, Φ_eq,
    after_0, after_1, after_2, after_3, after_4, after_5,
    show inv V c t.succ.val = inv V c 1 from inv_later V c (Nat.succ_ne_zero _),
    show t.castSucc.val = t.val from rfl]
  by_cases hz : t.val = 0
  · have ht : t = start := Fin.ext hz
    subst ht
    rw [show inv V c (start).val = Pipeline.ΦA spec1 c from rfl]
    unfold inv Pipeline.ΦA
    iintro ⟨⟨Hall, Hp⟩, Ho, ⟨%d0, H0⟩, ⟨%d1, H1⟩, ⟨%d2, H2⟩, ⟨%d3, H3⟩, ⟨%d4, H4⟩, ⟨%d5, H5⟩⟩
    ihave Hall := (take c) $$ Hall
    icases Hall with ⟨⟨Hs, Hz⟩, Hr⟩
    iapply (PhaseTwo.run_first c (grid1.coords start) _ _ _ _ _ _ _ _ _ _ _ _ _ (Memref.isWhole_whole _) _ (Memref.isWhole_whole _) (blk V c 0 start) (blk V c 1 start) (blk V c 2 start) (blk V c 3 start) (blk V c 4 start) Set.univ
      ((PhaseTwo.atStart_iff start).mpr rfl) _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [Hs]; · iexact Hs
    isplitl [Hz]; · iexact Hz
    iintro ⟨⟨H0, H1, H2, H3, H4⟩, H5, Hs, Hz⟩
    isplitl [Hs Hz Hr Hp]
    · isplitl [Hs Hz Hr]
      · isplitl [Hs Hz]
        · isplitl [Hs]; · iexact Hs
          iexact Hz
        iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5
  · rw [inv_later V c hz]
    unfold inv
    iintro ⟨⟨⟨⟨Hs, Hz⟩, Hr⟩, Hp⟩, Ho, ⟨%d0, H0⟩, ⟨%d1, H1⟩, ⟨%d2, H2⟩, ⟨%d3, H3⟩, ⟨%d4, H4⟩, ⟨%d5, H5⟩⟩
    iapply (PhaseTwo.run_later c (grid1.coords t) _ _ _ _ _ _ _ _ _ _ _ _ _ (Memref.isWhole_whole _) _ (Memref.isWhole_whole _) (blk V c 0 t) (blk V c 1 t) (blk V c 2 t) (blk V c 3 t) (blk V c 4 t) Set.univ
      (kept_p V c) (kept_z V c) (fun h => hz ((PhaseTwo.atStart_iff t).mp h)) _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [Hs]; · iexact Hs
    isplitl [Hz]; · iexact Hz
    iintro ⟨⟨H0, H1, H2, H3, H4⟩, H5, Hs, Hz⟩
    isplitl [Hs Hz Hr Hp]
    · isplitl [Hs Hz Hr]
      · isplitl [Hs Hz]
        · isplitl [Hs]; · iexact Hs
          iexact Hz
        iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5

/-- The row of the body table at a point is the body there. -/
theorem row (t : Fin cfg1.N) : defs₀ (F := F) .tc cfg1.body (cfg1.bodyArgs t (cfg1.slots t)) = bodyAt1 t := by
  unfold defs₀; rw [Defs.onTc_tc]

theorem obligation (c : Dev nD) : BodyObligation (dat (F := F) V c) (defs₀ (F := F)) Variants.none () Set.univ := fun t => by
  rw [bigSep_W1, bigSep_W1, row]
  exact triple_restated (body_at V c t) rfl .rfl fun _ => .rfl

theorem dat_in (c : Dev nD) : Pipeline.ΦA spec1 c ⊢ (dat V c).Φ 0 := by
  rw [Φ_eq]; exact Idealize.SL.BI.Entails.refl _

theorem dat_out (c : Dev nD) : (dat V c).Φ (Fin.last cfg1.N) ⊢ Pipeline.ΦA spec1 c := by
  rw [Φ_eq, inv_later V c (by rw [Fin.val_last]; have h : cfg1.N = 8 := N_1; omega)]
  exact inv_out V c

end Cert.RegionTwo

end
-- ==== Proof.Whole.lean ====
/- The whole of @main, for any floating-point operations `F`: the first host stretch, the first call, the second host
   stretch, the second call. Every run ends, with every buffer at the contents named here and every semaphore at zero. -/
module

public import proofs.«01_k».proof.Proof.RegionOne
public import proofs.«01_k».proof.Proof.RegionTwo
public import Idealize.ShloMosaic.Lib.Pipeline.RegionsLoop
public import Idealize.ShloMosaic.Lib.Pipeline.FrameSuffix

@[expose] public section

set_option maxRecDepth 16384

noncomputable section

namespace Cert.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The host stretches -/

theorem host0_fresh : (hostOps0 : List (HloOp τ sig (Elt F))).Forall fun op => op.fresh = ∅ := by
  simp only [List.Forall]; repeat' constructor
theorem host1_fresh : (hostOps1 : List (HloOp τ sig (Elt F))).Forall fun op => op.fresh = ∅ := by
  simp only [List.Forall]; repeat' constructor

/-- What each stretch writes. -/
abbrev host0_out : List (Ref sig .tc) := [main_v0, main_cst, main_v1, main_cst_0, main_v2, main_v3, main_v4, main_v5, main_v6, main_v7]
abbrev host1_out : List (Ref sig .tc) := [main_v9, main_v10]
theorem host0_writes : (hostOps0 : List (HloOp τ sig (Elt F))).Forall fun op => op.writes ⊆ (host0_out.map (Proc.devRef (τ := τ) .tc)).toFinset :=
  StableHlo.forall_writes_sub_of_map rfl
theorem host1_writes : (hostOps1 : List (HloOp τ sig (Elt F))).Forall fun op => op.writes ⊆ (host1_out.map (Proc.devRef (τ := τ) .tc)).toFinset :=
  StableHlo.forall_writes_sub_of_map rfl

/-! ## The buffers at the boundaries -/

/-- At the launch. -/
abbrev W0 (c : Dev nD) : Valuation τ sig (Elt F) := fun b => m ((c : Dev nD), b)
/-- Before the first call. -/
def W1 (c : Dev nD) : Valuation τ sig (Elt F) := StableHlo.after hostOps0 (W0 m c)
abbrev V1 (c : Dev nD) (b : Ref sig .tc) : Buf (Elt F) ((c : Thread nD τ).loc b) := W1 m c b
theorem W1_kept (c : Dev nD) (b : Ref sig .tc) (h : b ∉ host0_out) : W1 m c (Proc.devRef .tc b) = m ((c : Thread nD τ).loc b) :=
  StableHlo.after_of_writes_sub hostOps0 _ host0_writes h

/-- After the first call. -/
def W2 (c : Dev nD) : Valuation τ sig (Elt F) :=
  Pipeline.withArrays spec0 c (W1 m c) fun w => (RegionOne.dat (V1 m) c).arrAt w cfg0.N
abbrev V2 (c : Dev nD) (b : Ref sig .tc) : Buf (Elt F) ((c : Thread nD τ).loc b) := W2 m c b

theorem W2_array (c : Dev nD) (w : Fin cfg0.W) :
    W2 m c (Proc.devRef .tc (Pipeline.arrRef spec0 w)) = (RegionOne.dat (V1 m) c).arrAt w cfg0.N := by
  unfold W2; exact Pipeline.withArrays_arr spec0 launch0.win.arr_inj c _ _ w

theorem W2_other (c : Dev nD) (b : Ref sig .tc) (h : ∀ w, Pipeline.arrRef spec0 w ≠ b) :
    W2 m c (Proc.devRef .tc b) = W1 m c (Proc.devRef .tc b) := by
  unfold W2; exact Pipeline.withArrays_of_ne spec0 c _ _ b h

theorem W2_rest (c : Dev nD) (b : Ref sig .tc) (h : b ∉ Finset.univ.image (Pipeline.arrRef spec0)) : V2 m c b = V1 m c b :=
  W2_other m c b fun w e => h (Finset.mem_image.mpr ⟨w, Finset.mem_univ _, e⟩)

/-- A buffer that the call does not write back keeps its contents. -/
theorem W2_unwritten (c : Dev nD) (b : Ref sig .tc) (h : ∀ w : Fin cfg0.W, Pipeline.arrRef spec0 w = b → (cfg0.win w).isOut = false) :
    W2 m c (Proc.devRef .tc b) = W1 m c (Proc.devRef .tc b) := by
  by_cases hb : ∃ w : Fin cfg0.W, Pipeline.arrRef spec0 w = b
  · obtain ⟨w, rfl⟩ := hb
    rw [W2_array, (RegionOne.dat (V1 m) c).arrAt_in w (h w rfl), RegionOne.A_eq]
  · exact W2_other m c b fun w e => hb ⟨w, e⟩

/-- Before the second call. -/
def W3 (c : Dev nD) : Valuation τ sig (Elt F) := StableHlo.after hostOps1 (W2 m c)
abbrev V3 (c : Dev nD) (b : Ref sig .tc) : Buf (Elt F) ((c : Thread nD τ).loc b) := W3 m c b
theorem W3_kept (c : Dev nD) (b : Ref sig .tc) (h : b ∉ host1_out) : W3 m c (Proc.devRef .tc b) = W2 m c (Proc.devRef .tc b) :=
  StableHlo.after_of_writes_sub hostOps1 _ host1_writes h

/-- After the second call. -/
def W4 (c : Dev nD) : Valuation τ sig (Elt F) :=
  Pipeline.withArrays spec1 c (W3 m c) fun w => (RegionTwo.dat (V3 m) c).arrAt w cfg1.N
abbrev V4 (c : Dev nD) (b : Ref sig .tc) : Buf (Elt F) ((c : Thread nD τ).loc b) := W4 m c b

theorem W4_array (c : Dev nD) (w : Fin cfg1.W) :
    W4 m c (Proc.devRef .tc (Pipeline.arrRef spec1 w)) = (RegionTwo.dat (V3 m) c).arrAt w cfg1.N := by
  unfold W4; exact Pipeline.withArrays_arr spec1 launch1.win.arr_inj c _ _ w

theorem W4_other (c : Dev nD) (b : Ref sig .tc) (h : ∀ w, Pipeline.arrRef spec1 w ≠ b) :
    W4 m c (Proc.devRef .tc b) = W3 m c (Proc.devRef .tc b) := by
  unfold W4; exact Pipeline.withArrays_of_ne spec1 c _ _ b h

theorem W4_rest (c : Dev nD) (b : Ref sig .tc) (h : b ∉ Finset.univ.image (Pipeline.arrRef spec1)) : V4 m c b = V3 m c b :=
  W4_other m c b fun w e => h (Finset.mem_image.mpr ⟨w, Finset.mem_univ _, e⟩)

/-- A buffer that the call does not write back keeps its contents. -/
theorem W4_unwritten (c : Dev nD) (b : Ref sig .tc) (h : ∀ w : Fin cfg1.W, Pipeline.arrRef spec1 w = b → (cfg1.win w).isOut = false) :
    W4 m c (Proc.devRef .tc b) = W3 m c (Proc.devRef .tc b) := by
  by_cases hb : ∃ w : Fin cfg1.W, Pipeline.arrRef spec1 w = b
  · obtain ⟨w, rfl⟩ := hb
    rw [W4_array, (RegionTwo.dat (V3 m) c).arrAt_in w (h w rfl), RegionTwo.A_eq]
  · exact W4_other m c b fun w e => hb ⟨w, e⟩

/-! ## The arguments -/

abbrev args : List (Ref sig .tc) := [main_arg0, main_arg1, main_arg2, main_arg3, main_arg4, main_arg5, main_arg6, main_arg7]

theorem args_host0 : ∀ a ∈ args, a ∉ host0_out := ListAll.forall_mem_of_all_decide (by decide +kernel)
theorem args_host1 : ∀ a ∈ args, a ∉ host1_out := ListAll.forall_mem_of_all_decide (by decide +kernel)
theorem args_call0 : ∀ a ∈ args, ∀ w : Fin cfg0.W, Pipeline.arrRef spec0 w = a → (cfg0.win w).isOut = false :=
  ListAll.forall_mem_of_all_decide (by decide +kernel)
theorem args_call1 : ∀ a ∈ args, ∀ w : Fin cfg1.W, Pipeline.arrRef spec1 w = a → (cfg1.win w).isOut = false :=
  ListAll.forall_mem_of_all_decide (by decide +kernel)

theorem W1_args (c : Dev nD) (a : Ref sig .tc) (h : a ∈ args) : W1 m c (Proc.devRef .tc a) = m ((c : Thread nD τ).loc a) :=
  W1_kept m c a (args_host0 a h)
theorem W2_args (c : Dev nD) (a : Ref sig .tc) (h : a ∈ args) : W2 m c (Proc.devRef .tc a) = m ((c : Thread nD τ).loc a) :=
  (W2_unwritten m c a (args_call0 a h)).trans (W1_args m c a h)
theorem W3_args (c : Dev nD) (a : Ref sig .tc) (h : a ∈ args) : W3 m c (Proc.devRef .tc a) = m ((c : Thread nD τ).loc a) :=
  (W3_kept m c a (args_host1 a h)).trans (W2_args m c a h)
theorem W4_args (c : Dev nD) (a : Ref sig .tc) (h : a ∈ args) : W4 m c (Proc.devRef .tc a) = m ((c : Thread nD τ).loc a) :=
  (W4_unwritten m c a (args_call1 a h)).trans (W3_args m c a h)

/-! ## The segments -/

abbrev adm : (p : Fin 2) → (pcfgs (F := F) p).Adm := fun p => (cfgs p).toPCfg_adm
/-- Each call's proof data at what it finds. -/
def data : (p : Fin 2) → (c : Dev nD) → Dat τ (Elt F) Unit ℕ (UR sig nD τ) ℕ (Pipeline.pin (pcfgs (F := F)) adm p) c
  | ⟨0, _⟩ => fun c => RegionOne.dat (V1 m) c
  | ⟨1, _⟩ => fun c => RegionTwo.dat (V3 m) c
/-- No core owes another anything. -/
abbrev levels : GSem nD τ sig → Finset Unit := fun _ => ∅
abbrev level : GSem nD τ sig → Unit → ℕ := fun _ _ => 0
/-- What goes along with the buffers: the generator register, and nothing owed. -/
abbrev beside (c : Dev nD) : sProp 𝕄 := iprop((∃ r, prngReg c r) ∗ ∃ W, owes (c : Thread nD τ) (0 : CellTallies nD τ sig Unit) W)
/-- The end. -/
abbrev atEnd (c : Dev nD) : sProp 𝕄 := iprop(StableHlo.held (c : Thread nD τ) (Pipeline.ucRefs τ sig) (W4 m c) ∗ ∃ r, prngReg c r)

/-- A host stretch from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none levels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

set_option backward.isDefEq.respectTransparency.types false in
/-- Call 0 between the boundaries before and after it: its arrays leave the held buffers and come back written. -/
def reg0 : Pipeline.RegionSeg (pcfgs (F := F)) adm (data m) () defs₀ Variants.none levels level 0 where
  win := launch0.win.to₀
  block_pos := launch0.block_pos
  stage_whole := launch0.stage_whole
  K := PEmpty
  osem k := k.elim
  ho := Pipeline.OwnSemFacts.none _
  hbody c := (RegionOne.obligation (V1 m) c).loose
  hwaits := Pipeline.hwaits_of_owed_zero _ _ _ _ levels level 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (data m) launch0.win launch0.arr_whole c
      ((data m 0 c).share_full fun _ => rfl) (V1 m c) (RegionOne.A_eq (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (RegionOne.dat_in (V1 m) c)
    unfold Pipeline.ΦA
    iintro ⟨Hp, -, Hr⟩
    isplitl [Hr]; · iexact Hr
    iexact Hp
  hout c := by
    rw [Pipeline.ownSems0_none]
    refine BIBase.Entails.trans (RegionOne.dat_out (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (data m) ((data m 0 c).share_full fun _ => rfl)
      (V1 m c) (V2 m c) ((data m 0 c).arrAt · cfg0.N) (fun w => (W2_array m c w).symm) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 between the boundaries before and after it: its arrays leave the held buffers and come back written. -/
def reg1 : Pipeline.RegionSeg (pcfgs (F := F)) adm (data m) () defs₀ Variants.none levels level 1 where
  win := launch1.win.to₀
  block_pos := launch1.block_pos
  stage_whole := launch1.stage_whole
  K := PEmpty
  osem k := k.elim
  ho := Pipeline.OwnSemFacts.none _
  hbody c := (RegionTwo.obligation (V3 m) c).loose
  hwaits := Pipeline.hwaits_of_owed_zero _ _ _ _ levels level 1 fun _ _ => rfl
  pre c := iprop(StableHlo.held (c : Thread nD τ) (Pipeline.ucRefs τ sig) (W3 m c) ∗ beside c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (data m) launch1.win launch1.arr_whole c
      ((data m 1 c).share_full fun _ => rfl) (V3 m c) (RegionTwo.A_eq (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (RegionTwo.dat_in (V3 m) c)
    unfold Pipeline.ΦA
    iintro ⟨Hp, -, Hr⟩
    isplitl [Hr]; · iexact Hr
    iexact Hp
  hout c := by
    rw [Pipeline.ownSems0_none]
    refine BIBase.Entails.trans (RegionTwo.dat_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (data m) ((data m 1 c).share_full fun _ => rfl)
      (V3 m c) (V4 m c) ((data m 1 c).arrAt · cfg1.N) (fun w => (W4_array m c w).symm) (W4_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (data m) () defs₀ Variants.none levels level) :=
  [ .host (stretch hostOps0 hostOps0_sub host0_fresh (W0 m)), .region (reg0 m),
    .host (stretch hostOps1 hostOps1_sub host1_fresh (W2 m)), .region (reg1 m) ]

theorem main_is (c : Dev nD) : main (F := F) c = Pipeline.Seg.run (segs m) := (main_chain c).trans (by chain_rfl)

theorem all_scoped : ∀ sm : SemLoc sig, sm.isScoped .tc = true := by decide

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every run of @main ends with every buffer outside a call's scope at `W4` and every semaphore at zero. -/
theorem run (ρ : Dev nD → PrngReg) : θ_run defs (onTc (τ := τ) (main (F := F))) ⟨m, fun _ => 0, ρ⟩ (fun r =>
      (∀ c : Dev nD, ∀ b ∈ Pipeline.ucRefs τ sig, r.2.mem (((c : Thread nD τ)).1, b) = W4 m c b) ∧ r.2.sem = fun _ => 0) :=
  Pipeline.θ_run_regions_kit_sems (pcfgs (F := F)) adm (data m) () cellOf_inj emb₁ defs₀ Variants.none levels level m ρ main (segs m)
    (fun c Q => by rw [main_is m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := atEnd m)
    (hch := ⟨fun _ => .rfl, fun _ => .rfl, fun _ => .rfl, fun _ => .rfl, fun _ => .rfl⟩)
    (hinit := by
      refine Pipeline.initEach levels level fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (all_scoped g.2))⟩)

/-- The arguments at core `c` are what they were at the launch. -/
def Kept (s : (ℓ : Loc nD τ sig) → Buf (Elt F) ℓ) (c : Dev nD) : Prop :=
  s ((c.tc : Thread nD τ).loc main_arg0) = m ((c.tc : Thread nD τ).loc main_arg0) ∧
    s ((c.tc : Thread nD τ).loc main_arg1) = m ((c.tc : Thread nD τ).loc main_arg1) ∧
    s ((c.tc : Thread nD τ).loc main_arg2) = m ((c.tc : Thread nD τ).loc main_arg2) ∧
    s ((c.tc : Thread nD τ).loc main_arg3) = m ((c.tc : Thread nD τ).loc main_arg3) ∧
    s ((c.tc : Thread nD τ).loc main_arg4) = m ((c.tc : Thread nD τ).loc main_arg4) ∧
    s ((c.tc : Thread nD τ).loc main_arg5) = m ((c.tc : Thread nD τ).loc main_arg5) ∧
    s ((c.tc : Thread nD τ).loc main_arg6) = m ((c.tc : Thread nD τ).loc main_arg6) ∧
    s ((c.tc : Thread nD τ).loc main_arg7) = m ((c.tc : Thread nD τ).loc main_arg7)

theorem end_args {s : (ℓ : Loc nD τ sig) → Buf (Elt F) ℓ} (c : Dev nD)
    (h : ∀ b ∈ Pipeline.ucRefs τ sig, s (((c : Thread nD τ)).1, b) = W4 m c b) : Kept m s c :=
  have arg (a : Ref sig .tc) (ha : a ∈ args) (hs : ¬ (Proc.devRef .tc a : DevRef τ sig).isScoped) :
      s ((c.tc : Thread nD τ).loc a) = m ((c.tc : Thread nD τ).loc a) := (h _ (mem_uc a hs)).trans (W4_args m c a ha)
  ⟨arg main_arg0 (by decide) (by decide), arg main_arg1 (by decide) (by decide), arg main_arg2 (by decide) (by decide),
    arg main_arg3 (by decide) (by decide), arg main_arg4 (by decide) (by decide), arg main_arg5 (by decide) (by decide),
    arg main_arg6 (by decide) (by decide), arg main_arg7 (by decide) (by decide)⟩

end Cert.Whole

end
-- ==== Proof.Frames.lean ====
/- The frames: the kernel as compiled, the kernel at the ideal instance, and the reference. The first two are one run. -/
module

public import proofs.«01_k».proof.Defs
public import proofs.«01_k».proof.Proof.Whole
public import proofs.«01_k».proof.Proof.Gen.Kernel
public import proofs.«01_k».proof.Pre_finite
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.Tactic Idealize.ShloMosaic.TcCoe Idealize.SL.Sem

/-- A scalar spread over an array, in the precondition's program. -/
instance : Cert.Pre_finite.Facts where
  bcast_S_S4x4096x4096 := by decide
  bcast_S_S4096x128 := by decide
  bcast_S_S2x128x64 := by decide
  bcast_S_S4x2 := by decide

/-- A named constant read as its word: what the kernel as compiled has there. -/
local instance : Named Bits where
  named _ _ {φ} bits := FloatOps.ofBits φ bits

theorem frame_any {F : FTy → Type} [FloatOps F] [Named F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, Whole.Kept m r.2.mem c) ∧ r.2.sem = fun _ => 0) :=
  (θ_run Cert.KernelIdeal.defs _ _).mono (fun _ h => ⟨fun c => Whole.end_args m c (h.1 c), h.2⟩) (Whole.run m ρ)

/-- The kernel as compiled: the same run at bit patterns, the two programs being one text there. -/
theorem frame_kernel : Cert.quiescent_Kernel := fun m ρ _ => by
  refine Eq.mp ?_ (frame_any (F := Bits) m ρ)
  sl_kernel_rfl

theorem frame_ideal : Cert.quiescent_KernelIdeal := fun m ρ _ => frame_any m ρ

theorem frame_ideal_finite : Cert.quiescent_KernelIdeal_pre_finite := fun m ρ _ => frame_any m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run m ρ)

theorem preserves : Cert.preserves_Kernel_KernelIdeal :=
  IdealRules.named_const.statement Cert.KernelIdeal.κ "inv_16129" .f32 0x38820610#32 ((1 / 16129 : ℝ) : EReal) rfl

end Cert.Proof

end
-- ==== Proof.Code.lean ====
/- Eight-bit codes over the extended reals: the constants both programs use, and the kernel's way of rounding
   against the reference's. -/
module

public import proofs.«01_k».proof.KernelIdeal
public import Idealize.ShloMosaic.Lib.Pointwise
public import Idealize.ShloMosaic.PureOps.Ideal.Laws

@[expose] public section

set_option maxRecDepth 16384

noncomputable section

namespace Cert.Code

open Idealize.ShloMosaic
open scoped BigOperators

/-! ## Constants -/

theorem half : Ideal.ofBits FTy.f32 1056964608#32 = ((1 / 2 : ℝ) : EReal) := by
  simp [Ideal.ofBits, Ideal.ieee, -EReal.coe_mul]; norm_num

theorem neg_half : Ideal.ofBits FTy.f32 3204448256#32 = ((-(1 / 2) : ℝ) : EReal) := by
  simp [Ideal.ofBits, Ideal.ieee, -EReal.coe_mul]; norm_num

theorem c127 : Ideal.ofBits FTy.f32 1123942400#32 = ((127 : ℝ) : EReal) := by
  simp [Ideal.ofBits, Ideal.ieee, -EReal.coe_mul]; norm_num

theorem neg_128 : Ideal.ofBits FTy.f32 3271557120#32 = ((-128 : ℝ) : EReal) := by
  simp [Ideal.ofBits, Ideal.ieee, -EReal.coe_mul]; norm_num

theorem tiny_pos : 0 < Ideal.ofBits FTy.f32 228737632#32 := by
  simp [Ideal.ofBits, Ideal.ieee, -EReal.coe_mul]

theorem inf : Ideal.ofBits FTy.f32 2139095040#32 = ⊤ := by
  simp [Ideal.ofBits, Ideal.ieee, -EReal.coe_mul]

theorem kappa : Named.named (F := Ideal) Cert.KernelIdeal.κ "inv_16129" (φ := .f32) 948045328#32 = ((1 / 16129 : ℝ) : EReal) :=
  IdealRules.named_const.ideal_named_scalar _ _ _ _ rfl

/-! ## Rounding -/

/-- The kernel's code of a number: a half is added away from zero and the fraction dropped, held to eight bits. -/
def code (y : EReal) : BitVec 8 :=
  FloatOps.fptosi (F := Ideal) (φ := .f32) 8
    (y + if 0 ≤ y then Ideal.ofBits FTy.f32 1056964608#32 else Ideal.ofBits FTy.f32 3204448256#32)

/-- The reference's code: the nearest integer, a tie away from zero, clipped. -/
def clip (y : EReal) : EReal :=
  min (Ideal.ofBits FTy.f32 1123942400#32) (max (Ideal.ofBits FTy.f32 3271557120#32) (Ideal.liftRound Ideal.roundHalfAway y))

theorem code_toInt (y : ℝ) : (code (y : EReal)).toInt = max (-128) (min 127 (Ideal.roundHalfAway y)) := by
  have e : code (y : EReal) = BitVec.ofInt 8 (max (-128) (min 127 (Ideal.roundHalfAway y))) := by
    unfold code Ideal.roundHalfAway
    rw [half, neg_half]
    by_cases h : 0 ≤ y
    · rw [if_pos (by exact_mod_cast h), if_pos h, ← EReal.coe_add]
      show BitVec.ofInt 8 (Ideal.toIntClamped (-128) 127 _) = _
      rw [Ideal.toIntClamped_coe, if_pos (by linarith)]
    · rw [if_neg (by exact_mod_cast h), if_neg h, ← EReal.coe_add]
      show BitVec.ofInt 8 (Ideal.toIntClamped (-128) 127 _) = _
      rw [Ideal.toIntClamped_coe, if_neg (by linarith), sub_eq_add_neg]
  rw [e, BitVec.toInt_ofInt]
  apply Int.bmod_eq_of_le <;> omega

/-- The two codes of a real number are one. -/
theorem clip_coe (y : ℝ) : clip (y : EReal) = (((code (y : EReal)).toInt : ℝ) : EReal) := by
  have e : max (-128) (min 127 (Ideal.roundHalfAway y)) = min 127 (max (-128) (Ideal.roundHalfAway y)) := by omega
  rw [code_toInt, e, clip, c127, neg_128, Ideal.liftRound_coe, ← EReal.coe_strictMono.monotone.map_max, ← EReal.coe_strictMono.monotone.map_min]
  push_cast
  rfl

theorem code_zero : (code 0).toInt = 0 := by
  have := code_toInt 0
  rw [EReal.coe_zero] at this
  rw [this]; simp [Ideal.roundHalfAway]; norm_num

theorem clip_zero : clip 0 = 0 := by
  have := clip_coe 0
  rw [EReal.coe_zero, code_zero] at this
  simpa using this

end Cert.Code

end
-- ==== Proof.Term.lean ====
/- One basis of the second layer: the kernel's integer product of codes, scaled once, against the reference's product of
   rounded arrays. -/
module

public import proofs.«01_k».proof.Proof.Code

@[expose] public section

set_option maxRecDepth 16384

noncomputable section

namespace Cert.Code

open Idealize.ShloMosaic
open scoped BigOperators

theorem abs_nonneg' (x : EReal) : 0 ≤ max x (-x) := by
  rcases le_total 0 x with h | h
  · exact h.trans (le_max_left _ _)
  · exact (EReal.neg_nonneg.mpr h).trans (le_max_right _ _)

/-- A number whose magnitude is bounded by a real is real. -/
theorem exists_real {x : EReal} {r : ℝ} (h : max x (-x) ≤ (r : EReal)) : ∃ y : ℝ, x = y := by
  induction x with
  | bot => simp at h
  | top => simp at h
  | coe y => exact ⟨y, rfl⟩

theorem real_div (x y : ℝ) (h : y ≠ 0) : Ideal.div (x : EReal) (y : EReal) = ((x / y : ℝ) : EReal) := by
  rw [Ideal.div_coe h, ← EReal.coe_mul, mul_one_div]

theorem div_top (x : EReal) : Ideal.div x ⊤ = 0 := by
  rw [Ideal.div, if_neg (by simp)]; simp

theorem top_div (r : ℝ) (h : 0 < r) : Ideal.div ⊤ (r : EReal) = ⊤ := by
  rw [Ideal.div_coe h.ne', EReal.top_mul_coe_of_pos (by positivity)]

theorem coe_sum {ι : Type} [Fintype ι] (f : ι → ℝ) : ((∑ i, f i : ℝ) : EReal) = ∑ i, (f i : EReal) :=
  map_sum (⟨⟨fun x : ℝ => (x : EReal), EReal.coe_zero⟩, EReal.coe_add⟩ : ℝ →+ EReal) f Finset.univ

variable {n : Nat}

/-- The kernel's share of one basis. -/
def fused (S M : EReal) (w : Fin 4 → EReal) (a : Fin 4 → Fin n → EReal) (p : Fin n → EReal) : EReal :=
  (((∑ k, (code (∑ r, w r * Ideal.div (Ideal.ofBits FTy.f32 1123942400#32) S * a r k)).toInt
      * (code (p k * Ideal.div (Ideal.ofBits FTy.f32 1123942400#32) M)).toInt : ℤ) : ℝ) : EReal) * (S * M * ((1 / 16129 : ℝ) : EReal))

/-- The reference's share of one basis. -/
def plain (S M : EReal) (w : Fin 4 → EReal) (a : Fin 4 → Fin n → EReal) (p : Fin n → EReal) : EReal :=
  ∑ k, clip (Ideal.div (∑ r, w r * a r k) (Ideal.div S (Ideal.ofBits FTy.f32 1123942400#32))) * Ideal.div S (Ideal.ofBits FTy.f32 1123942400#32)
    * (clip (Ideal.div (p k) (Ideal.div M (Ideal.ofBits FTy.f32 1123942400#32))) * Ideal.div M (Ideal.ofBits FTy.f32 1123942400#32))

/-- All weights zero: both shares vanish. -/
theorem share_zero (M : EReal) (w : Fin 4 → EReal) (a : Fin 4 → Fin n → EReal) (p : Fin n → EReal) :
    fused 0 M w a p = plain 0 M w a p := by
  have z : Ideal.div (0 : EReal) ((127 : ℝ) : EReal) = 0 := by rw [Ideal.div_coe (by norm_num), zero_mul]
  unfold fused plain
  rw [c127, z]
  simp only [mul_zero, zero_mul, Finset.sum_const_zero]

/-- An infinite weight: every code of the mixed adjacency is zero. -/
theorem share_top (M : EReal) (w : Fin 4 → EReal) (a : Fin 4 → Fin n → EReal) (p : Fin n → EReal) :
    fused ⊤ M w a p = plain ⊤ M w a p := by
  unfold fused plain
  rw [c127, top_div _ (by norm_num)]
  simp only [div_top, mul_zero, zero_mul, Finset.sum_const_zero, code_zero, clip_zero, Int.cast_zero, EReal.coe_zero]

/-- An infinite projection: every code of the projections is zero. -/
theorem share_top' (S : EReal) (w : Fin 4 → EReal) (a : Fin 4 → Fin n → EReal) (p : Fin n → EReal) :
    fused S ⊤ w a p = plain S ⊤ w a p := by
  unfold fused plain
  rw [c127, top_div _ (by norm_num)]
  simp only [div_top, mul_zero, zero_mul, Finset.sum_const_zero, code_zero, clip_zero, Int.cast_zero, EReal.coe_zero]

/-- Over the reals: the codes are the same integers, and the two scales come out of the sum. -/
theorem share_real (s m : ℝ) (hs : 0 < s) (hm : 0 < m) (w : Fin 4 → ℝ) (a : Fin 4 → Fin n → ℝ) (p : Fin n → ℝ) :
    fused (s : EReal) m (fun r => (w r : EReal)) (fun r k => (a r k : EReal)) (fun k => (p k : EReal))
      = plain (s : EReal) m (fun r => (w r : EReal)) (fun r k => (a r k : EReal)) (fun k => (p k : EReal)) := by
  have ea : ∀ k, (∑ r, w r * (127 / s) * a r k) = (∑ r, w r * a r k) / (s / 127) := fun k => by
    rw [Finset.sum_div]; refine Finset.sum_congr rfl fun r _ => ?_; field_simp
  have ep : ∀ k, p k * (127 / m) = p k / (m / 127) := fun k => by field_simp
  unfold fused plain
  rw [c127]
  simp only [real_div _ _ hs.ne', real_div _ _ hm.ne', real_div _ _ (show (127 : ℝ) ≠ 0 by norm_num), ← EReal.coe_mul, ← coe_sum,
    real_div _ _ (show s / 127 ≠ 0 by positivity), real_div _ _ (show m / 127 ≠ 0 by positivity), clip_coe, ea, ep]
  congr 1
  push_cast
  rw [Finset.sum_mul]
  refine Finset.sum_congr rfl fun k _ => ?_
  ring

theorem share (S M : EReal) (hM : 0 < M) (w : Fin 4 → EReal) (hS : S = ∑ r, max (w r) (-w r)) (a : Fin 4 → Fin n → EReal)
    (ha : ∀ r k, ∃ y : ℝ, a r k = y) (p : Fin n → EReal) (hp : ∀ k, max (p k) (-p k) ≤ M) :
    fused S M w a p = plain S M w a p := by
  have h0 : 0 ≤ S := hS ▸ Finset.sum_nonneg fun r _ => abs_nonneg' _
  have hw : ∀ r, max (w r) (-w r) ≤ S := fun r => hS ▸
    Finset.single_le_sum (f := fun r => max (w r) (-w r)) (fun r _ => abs_nonneg' _) (Finset.mem_univ r)
  clear hS
  induction S with
  | bot => simp at h0
  | top => exact share_top M w a p
  | coe s =>
    induction M with
    | bot => simp at hM
    | top => exact share_top' s w a p
    | coe m =>
      rcases (EReal.coe_nonneg.mp h0).eq_or_lt with rfl | hs
      · exact share_zero m w a p
      · choose w' ew using fun r => exists_real (hw r)
        choose a' ea using ha
        choose p' ep using fun k => exists_real (hp k)
        obtain rfl : w = fun r => (w' r : EReal) := funext ew
        obtain rfl : a = fun r k => (a' r k : EReal) := funext fun r => funext (ea r)
        obtain rfl : p = fun k => (p' k : EReal) := funext ep
        exact share_real s m hs (EReal.coe_pos.mp hM) w' a' p'

end Cert.Code

end
-- ==== Proof.Finite.lean ====
/- What the precondition says: the entries of the adjacencies, the features and the first layer's weights are real numbers. -/
module

public import proofs.«01_k».proof.Defs
public import proofs.«01_k».proof.Proof.Frames
public import proofs.«01_k».proof.Proof.Term

@[expose] public section

set_option maxRecDepth 16384

noncomputable section

namespace Cert.Finite

open Cert.KernelIdeal
open Idealize.ShloMosaic Idealize.ShloMosaic.TcCoe Idealize.ShloMosaic.Tactic

/-- A number whose magnitude is below infinity is real. -/
theorem real_of (x : Ideal .f32) (h : BitVec.ofBool (decide (FloatOps.absf (F := Ideal) x < Ideal.ofBits FTy.f32 2139095040#32)) = 1#1) :
    ∃ y : ℝ, x = (y : EReal) := by
  rw [Cert.Code.inf] at h
  have hx : max x (-x) < (⊤ : EReal) := by
    by_contra hn
    have hd : decide (FloatOps.absf (F := Ideal) x < (⊤ : EReal)) = false := decide_eq_false hn
    rw [hd] at h
    exact absurd h (by decide)
  induction x using EReal.rec with
  | bot => simp at hx
  | top => simp at hx
  | coe y => exact ⟨y, rfl⟩

variable (m : (ℓ : Loc nD τ sig) → Buf (Elt Ideal) ℓ) (h : Cert.Pre_KernelIdeal_finite m) (c : Dev nD)
include h

theorem real_A (r : Fin 4) (n k : Fin 4096) : ∃ y : ℝ, m ((c : Thread nD τ).loc main_arg0) (ix3 r n k) = (y : EReal) := by
  have h1 := congrFun (h c).1 (ix3 r n k)
  pointwise [Cert.Pre_finite.fn] at h1
  exact real_of _ h1

theorem real_x (k : Fin 4096) (i : Fin 128) : ∃ y : ℝ, m ((c : Thread nD τ).loc main_arg1) (ix2 k i) = (y : EReal) := by
  have h1 := congrFun (h c).2.1 (ix2 k i)
  pointwise [Cert.Pre_finite.fn] at h1
  exact real_of _ h1

theorem real_b (b : Fin 2) (i : Fin 128) (o : Fin 64) : ∃ y : ℝ, m ((c : Thread nD τ).loc main_arg2) (ix3 b i o) = (y : EReal) := by
  have h1 := congrFun (h c).2.2.1 (ix3 b i o)
  pointwise [Cert.Pre_finite.fn] at h1
  exact real_of _ h1

theorem real_w (r : Fin 4) (b : Fin 2) : ∃ y : ℝ, m ((c : Thread nD τ).loc main_arg3) (ix2 r b) = (y : EReal) := by
  have h1 := congrFun (h c).2.2.2 (ix2 r b)
  pointwise [Cert.Pre_finite.fn] at h1
  exact real_of _ h1

end Cert.Finite

end
-- ==== Proof.Host.lean ====
/- What the operations around the two calls hold, entry by entry. -/
module

public import proofs.«01_k».proof.Proof.Whole
public import Idealize.ShloMosaic.Lib.Pointwise
public import Idealize.ShloMosaic.PureOps.Ideal.Laws

@[expose] public section

set_option maxRecDepth 16384

noncomputable section

namespace Cert.Whole

open Cert.KernelIdeal Cert.KernelIdeal.Gen
open Idealize.ShloMosaic Idealize.ShloMosaic.TcCoe Idealize.ShloMosaic.Tactic
open Idealize.ShloMosaic.StableHlo
open scoped BigOperators

variable (m : (ℓ : Loc nD τ sig) → Buf (Elt Ideal) ℓ)

/-- The total weight of a basis. -/
def weight (w : Vec Ideal S4x2 .f32) (b : Fin 2) : EReal := ∑ r : Fin 4, max (w (ix2 r b)) (-w (ix2 r b))

/-- The second layer's weights, each basis brought to the range of its codes. -/
def scaled (w : Vec Ideal S4x2 .f32) (r : Fin 4) (b : Fin 2) : EReal :=
  w (ix2 r b) * Ideal.div (Ideal.ofBits FTy.f32 1123942400#32) (weight w b)

theorem W1_v1 (c : Dev nD) (b : Fin 2) : W1 m c (Proc.devRef .tc main_v1) (ix1 b) = weight (m ((c : Thread nD τ).loc main_arg6)) b := by
  unfold W1
  simp only [hostOps0, TRef.binary, TRef.nullary, TRef.unary, TRef.toBuf, TRef.ofBuf, cast_eq]
  after_results_simp
  pointwise []
  rfl

theorem W1_v6 (c : Dev nD) (r : Fin 4) (b : Fin 2) : W1 m c (Proc.devRef .tc main_v6) (ix2 r b)
    = scaled (m ((c : Thread nD τ).loc main_arg6)) r b := by
  unfold W1
  simp only [hostOps0, TRef.binary, TRef.nullary, TRef.unary, TRef.toBuf, TRef.ofBuf, cast_eq]
  after_results_simp
  pointwise [scaled, weight]
  rfl

theorem W1_v7 (c : Dev nD) (j : Fin 64) : W1 m c (Proc.devRef .tc main_v7) (ix2 0 j) = m ((c : Thread nD τ).loc main_arg4) (ix1 j) := by
  unfold W1
  simp only [hostOps0, TRef.binary, TRef.nullary, TRef.unary, TRef.toBuf, TRef.ofBuf, cast_eq]
  after_results_simp
  pointwise []
  try rfl

theorem W3_v9 (c : Dev nD) (b : Fin 2) : W3 m c (Proc.devRef .tc main_v9) (ix2 0 b) = weight (m ((c : Thread nD τ).loc main_arg6)) b := by
  rw [← W1_v1, ← W2_other m c main_v1 (by decide)]
  unfold W3
  simp only [hostOps1, TRef.binary, TRef.nullary, TRef.unary, TRef.toBuf, TRef.ofBuf, cast_eq]
  after_results_simp
  pointwise []
  try rfl

theorem W3_v10 (c : Dev nD) (j : Fin 64) : W3 m c (Proc.devRef .tc main_v10) (ix2 0 j) = m ((c : Thread nD τ).loc main_arg7) (ix1 j) := by
  rw [← W2_args m c main_arg7 (by decide)]
  unfold W3
  simp only [hostOps1, TRef.binary, TRef.nullary, TRef.unary, TRef.toBuf, TRef.ofBuf, cast_eq]
  after_results_simp
  pointwise []
  try rfl

end Cert.Whole

end
-- ==== Proof.ValueOne.lean ====
/- What the first call's body computes, entry by entry, over the extended reals. -/
module

public import proofs.«01_k».proof.Proof.PhaseOne
public import proofs.«01_k».proof.Proof.Code
public import Idealize.ShloMosaic.Lib.Pointwise

@[expose] public section

set_option maxRecDepth 16384

noncomputable section

namespace Cert.PhaseOne

open Cert.KernelIdeal Cert.KernelIdeal.Gen
open Idealize.ShloMosaic Idealize.ShloMosaic.TcCoe Idealize.ShloMosaic.Tactic
open scoped BigOperators
open Cert.Code

/-- A slab's entry in the array it is cut from. -/
theorem slab_emb {N P Q k : Nat} (h : ∀ a, ![k, 0, 0] a + ![1, P, Q] a ≤ (⟨3, ![N, P, Q]⟩ : Shape).size a)
    (z : Fin 1) (i : Fin P) (j : Fin Q) :
    (Rect.unit (s := ⟨3, ![N, P, Q]⟩) ![k, 0, 0] ![1, P, Q] h).emb (ix3 z i j) = ix3 ⟨k, Nat.lt_of_succ_le (h 0)⟩ i j := by
  funext a
  apply Fin.ext
  rw [Rect.emb_apply]
  match a with
  | ⟨0, _⟩ => show k + 1 * z.val = k; omega
  | ⟨1, _⟩ => show 0 + 1 * i.val = i.val; omega
  | ⟨2, _⟩ => show 0 + 1 * j.val = j.val; omega

/-- A slab agrees with an array's entries when it does so coordinate by coordinate. -/
theorem slab_eq {N P Q k : Nat} {α : Type} (h : ∀ a, ![k, 0, 0] a + ![1, P, Q] a ≤ (⟨3, ![N, P, Q]⟩ : Shape).size a)
    (f : (⟨3, ![1, P, Q]⟩ : Shape).Idx → α) (G : (⟨3, ![N, P, Q]⟩ : Shape).Idx → α)
    (e : ∀ z i j, f (ix3 z i j) = G (ix3 ⟨k, Nat.lt_of_succ_le (h 0)⟩ i j)) (y : (⟨3, ![1, P, Q]⟩ : Shape).Idx) :
    f y = G ((Rect.unit (s := ⟨3, ![N, P, Q]⟩) ![k, 0, 0] ![1, P, Q] h).emb y) := by
  obtain ⟨z, i, j, rfl⟩ : ∃ z i j, y = ix3 z i j := ⟨_, _, _, eq_ix3 y⟩
  exact (e z i j).trans (congrArg G (slab_emb h z i j).symm)

/-- The scratch: for each relation the projections of `x`, mixed by its weights. -/
def mixed (x : Vec Ideal S4096x128 .f32) (b : Vec Ideal S2x128x64 .f32) (w : Vec Ideal S4x2 .f32) (r : Fin 4) (m : Fin 4096) (o : Fin 64) : EReal :=
  w (ix2 r 0) * ∑ i : Fin 128, x (ix2 m i) * b (ix3 0 i o) + w (ix2 r 1) * ∑ i : Fin 128, x (ix2 m i) * b (ix3 1 i o)

/-- The hidden layer: the relations' products added, the bias, and the rectifier. -/
def layer (A : Vec Ideal S4x4096x4096 .f32) (s : Fin 4 → Fin 4096 → Fin 64 → EReal) (o : Fin 64 → EReal) (n : Fin 4096) (j : Fin 64) : EReal :=
  max (∑ m, A (ix3 0 n m) * s 0 m j + ∑ m, A (ix3 1 n m) * s 1 m j + ∑ m, A (ix3 2 n m) * s 2 m j + ∑ m, A (ix3 3 n m) * s 3 m j + o j) 0

/-- The relations' adjacencies mixed by one column of weights. -/
def blend (w : Vec Ideal S4x2 .f32) (A : Vec Ideal S4x4096x4096 .f32) (b : Fin 2) (n k : Fin 4096) : EReal :=
  ∑ r : Fin 4, w (ix2 r b) * A (ix3 r n k)

theorem scr_apply (x : Vec Ideal S4096x128 .f32) (b : Vec Ideal S2x128x64 .f32) (w : Vec Ideal S4x2 .f32)
    (r : Fin 4) (m : Fin 4096) (o : Fin 64) : scr x b w (ix3 r m o) = mixed x b w r m o := by
  let G : S4x4096x64.Idx → EReal := fun y => mixed x b w (y 0) (y 1) (y 2)
  refine View.canon_apply_of_pieces G (scrL x b w) ?_ (ix3 r m o) (scr_cover x b w _)
  intro p hp
  simp only [scrL, List.mem_cons, List.mem_nil_iff, or_false] at hp
  rcases hp with rfl | rfl | rfl | rfl <;> refine slab_eq (by decide) _ G ?_ <;> intro z i j <;>
    pointwise [G, k0_pay2, k0_pay3, k0_pay4, k0_pay5, k0_pay6, k0_pay7, k0_pay8, k0_pay9, mixed]

/-- The block of the hidden layer. -/
theorem hid_apply (a : Vec Ideal S4x128x4096 .f32) (s : Vec Ideal S4x4096x64 .f32) (o : Vec Ideal S1x64 .f32) (n : Fin 128) (j : Fin 64) :
    hid a s o (ix2 n j) = max (∑ m, a (ix3 0 n m) * s (ix3 0 m j) + ∑ m, a (ix3 1 n m) * s (ix3 1 m j)
      + ∑ m, a (ix3 2 n m) * s (ix3 2 m j) + ∑ m, a (ix3 3 n m) * s (ix3 3 m j) + o (ix2 0 j)) 0 := by
  unfold hid hidL
  rw [View.canon_unit_zero (by decide)]
  pointwise [k0_pay10, k0_pay11]

/-- The block of codes. -/
theorem cod_apply (a : Vec Ideal S4x128x4096 .f32) (w : Vec Ideal S4x2 .f32) (b : Fin 2) (n : Fin 128) (m : Fin 4096) :
    cod a w (ix3 b n m) = code (w (ix2 0 b) * a (ix3 0 n m) + w (ix2 1 b) * a (ix3 1 n m) + w (ix2 2 b) * a (ix3 2 n m)
      + w (ix2 3 b) * a (ix3 3 n m)) := by
  let G : S2x128x4096.Idx → BitVec 8 := fun y => code (w (ix2 0 (y 0)) * a (ix3 0 (y 1) (y 2)) + w (ix2 1 (y 0)) * a (ix3 1 (y 1) (y 2))
    + w (ix2 2 (y 0)) * a (ix3 2 (y 1) (y 2)) + w (ix2 3 (y 0)) * a (ix3 3 (y 1) (y 2)))
  refine View.canon_apply_of_pieces G (codL a w) ?_ (ix3 b n m) (cod_cover a w _)
  intro p hp
  simp only [codL, List.mem_cons, List.mem_nil_iff, or_false] at hp
  rcases hp with rfl | rfl <;> refine slab_eq (by decide) _ G ?_ <;> intro z i j <;>
    pointwise [G, k0_pay1, k0_pay12, k0_pay13, k0_pay14, k0_pay15, k0_pay16, k0_pay17, code]

end Cert.PhaseOne

end
-- ==== Proof.ArrayOne.lean ====
/- The arrays the first call leaves, entry by entry. -/
module

public import proofs.«01_k».proof.Proof.RegionOne
public import proofs.«01_k».proof.Proof.ValueOne
public import Idealize.ShloMosaic.Lib.Pipeline.Value

@[expose] public section

set_option maxRecDepth 16384

noncomputable section

namespace Cert.RegionOne

open Cert.KernelIdeal Cert.KernelIdeal.Gen
open Idealize.ShloMosaic Idealize.ShloMosaic.TcCoe
open Cert.Code
open scoped BigOperators

variable (V : (c : Dev nD) → (b : Ref sig .tc) → Buf (Elt Ideal) ((c : Thread nD τ).loc b))

/-! ## Where the blocks lie -/

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 3) = 0 ∧ win0_2.index t (1 : Fin 3) = 0 ∧ win0_2.index t (2 : Fin 3) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)
theorem at7 : ∀ t : Fin cfg0.N, win0_7.index t (0 : Fin 3) = 0 ∧ win0_7.index t (1 : Fin 3) = t.val ∧ win0_7.index t (2 : Fin 3) = 0 :=
  (by decide +kernel : ∀ t : Fin grid0.N, _)

/-- The point whose block holds row `n`, and the row's place in it. -/
def pt (n : Fin 4096) : Fin cfg0.N := ⟨n.val / 128, by have h : cfg0.N = 32 := N_0; omega⟩
def loc (n : Fin 4096) : Fin 128 := ⟨n.val % 128, Nat.mod_lt _ (by decide)⟩

/-! ## The blocks read -/

theorem blk_A (c : Dev nD) (n : Fin 4096) (r : Fin 4) (k : Fin 4096) : blk V c 0 (pt n) (ix3 r (loc n) k) = V c main_arg0 (ix3 r n k) := by
  obtain ⟨e0, e1, e2⟩ := at0 (pt n)
  refine congrArg (V c main_arg0) (funext fun a => Fin.ext ?_)
  match a with
  | ⟨0, _⟩ => show win0_0.index (pt n) (0 : Fin 3) * 4 + 1 * r.val = r.val; omega
  | ⟨1, _⟩ => show win0_0.index (pt n) (1 : Fin 3) * 128 + 1 * (n.val % 128) = n.val; rw [e1]; show n.val / 128 * 128 + _ = _; omega
  | ⟨2, _⟩ => show win0_0.index (pt n) (2 : Fin 3) * 4096 + 1 * k.val = k.val; omega

theorem blk_x (c : Dev nD) (t : Fin cfg0.N) (i : Fin 4096) (j : Fin 128) : blk V c 1 t (ix2 i j) = V c main_arg1 (ix2 i j) := by
  obtain ⟨e0, e1⟩ := at1 t
  refine congrArg (V c main_arg1) (funext fun a => Fin.ext ?_)
  match a with
  | ⟨0, _⟩ => show win0_1.index t (0 : Fin 2) * 4096 + 1 * i.val = i.val; omega
  | ⟨1, _⟩ => show win0_1.index t (1 : Fin 2) * 128 + 1 * j.val = j.val; omega

theorem blk_b (c : Dev nD) (t : Fin cfg0.N) (b : Fin 2) (i : Fin 128) (j : Fin 64) : blk V c 2 t (ix3 b i j) = V c main_arg2 (ix3 b i j) := by
  obtain ⟨e0, e1, e2⟩ := at2 t
  refine congrArg (V c main_arg2) (funext fun a => Fin.ext ?_)
  match a with
  | ⟨0, _⟩ => show win0_2.index t (0 : Fin 3) * 2 + 1 * b.val = b.val; omega
  | ⟨1, _⟩ => show win0_2.index t (1 : Fin 3) * 128 + 1 * i.val = i.val; omega
  | ⟨2, _⟩ => show win0_2.index t (2 : Fin 3) * 64 + 1 * j.val = j.val; omega

theorem blk_w (c : Dev nD) (t : Fin cfg0.N) (i : Fin 4) (j : Fin 2) : blk V c 3 t (ix2 i j) = V c main_arg3 (ix2 i j) := by
  obtain ⟨e0, e1⟩ := at3 t
  refine congrArg (V c main_arg3) (funext fun a => Fin.ext ?_)
  match a with
  | ⟨0, _⟩ => show win0_3.index t (0 : Fin 2) * 4 + 1 * i.val = i.val; omega
  | ⟨1, _⟩ => show win0_3.index t (1 : Fin 2) * 2 + 1 * j.val = j.val; omega

theorem blk_v (c : Dev nD) (t : Fin cfg0.N) (i : Fin 4) (j : Fin 2) : blk V c 4 t (ix2 i j) = V c main_v6 (ix2 i j) := by
  obtain ⟨e0, e1⟩ := at4 t
  refine congrArg (V c main_v6) (funext fun a => Fin.ext ?_)
  match a with
  | ⟨0, _⟩ => show win0_4.index t (0 : Fin 2) * 4 + 1 * i.val = i.val; omega
  | ⟨1, _⟩ => show win0_4.index t (1 : Fin 2) * 2 + 1 * j.val = j.val; omega

theorem blk_o (c : Dev nD) (t : Fin cfg0.N) (i : Fin 1) (j : Fin 64) : blk V c 5 t (ix2 i j) = V c main_v7 (ix2 i j) := by
  obtain ⟨e0, e1⟩ := at5 t
  refine congrArg (V c main_v7) (funext fun a => Fin.ext ?_)
  match a with
  | ⟨0, _⟩ => show win0_5.index t (0 : Fin 2) * 1 + 1 * i.val = i.val; omega
  | ⟨1, _⟩ => show win0_5.index t (1 : Fin 2) * 64 + 1 * j.val = j.val; omega

/-! ## The arrays written -/

theorem apart6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (Fin.ext ((at6 t).1.symm.trans ((congrFun h (0 : Fin 2)).trans (at6 t').1)))

theorem apart7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (Fin.ext ((at7 t).2.1.symm.trans ((congrFun h (1 : Fin 3)).trans (at7 t').2.1)))

theorem emb6 (n : Fin 4096) (j : Fin 64) : ((cfg0.win 6).blk (pt n)).view.emb (ix2 (loc n) j) = (ix2 n j : S4096x64.Idx) := by
  obtain ⟨e0, e1⟩ := at6 (pt n)
  refine funext fun a => Fin.ext ?_
  match a with
  | ⟨0, _⟩ => show win0_6.index (pt n) (0 : Fin 2) * 128 + 1 * (n.val % 128) = n.val; rw [e0]; show n.val / 128 * 128 + _ = _; omega
  | ⟨1, _⟩ => show win0_6.index (pt n) (1 : Fin 2) * 64 + 1 * j.val = j.val; omega

theorem emb7 (b : Fin 2) (n : Fin 4096) (k : Fin 4096) :
    ((cfg0.win 7).blk (pt n)).view.emb (ix3 b (loc n) k) = (ix3 b n k : S2x4096x4096.Idx) := by
  obtain ⟨e0, e1, e2⟩ := at7 (pt n)
  refine funext fun a => Fin.ext ?_
  match a with
  | ⟨0, _⟩ => show win0_7.index (pt n) (0 : Fin 3) * 2 + 1 * b.val = b.val; omega
  | ⟨1, _⟩ => show win0_7.index (pt n) (1 : Fin 3) * 128 + 1 * (n.val % 128) = n.val; rw [e1]; show n.val / 128 * 128 + _ = _; omega
  | ⟨2, _⟩ => show win0_7.index (pt n) (2 : Fin 3) * 4096 + 1 * k.val = k.val; omega

theorem array6 (c : Dev nD) (n : Fin 4096) (j : Fin 64) : (dat V c).arrAt 6 cfg0.N (ix2 n j)
    = PhaseOne.hid (blk V c 0 (pt n)) (kept_s V c) (blk V c 5 (pt n)) (ix2 (loc n) j) := by
  have h := congrFun ((dat V c).read_blk_arrAt_eq_flushed 6 apart6 cfg0.N (pt n) (pt n).isLt (flush0_6 _)) (ix2 (loc n) j)
  rw [← after_6, ← emb6]
  exact h

theorem array7 (c : Dev nD) (b : Fin 2) (n k : Fin 4096) : (dat V c).arrAt 7 cfg0.N (ix3 b n k)
    = PhaseOne.cod (blk V c 0 (pt n)) (blk V c 4 (pt n)) (ix3 b (loc n) k) := by
  have h := congrFun ((dat V c).read_blk_arrAt_eq_flushed 7 apart7 cfg0.N (pt n) (pt n).isLt (flush0_7 _)) (ix3 b (loc n) k)
  rw [← after_7, ← emb7]
  exact h

/-- The scratch. -/
theorem kept_apply (c : Dev nD) (r : Fin 4) (m : Fin 4096) (o : Fin 64) :
    kept_s V c (ix3 r m o) = PhaseOne.mixed (V c main_arg1) (V c main_arg2) (V c main_arg3) r m o := by
  unfold kept_s
  rw [PhaseOne.scr_apply]
  simp only [PhaseOne.mixed, blk_x, blk_b, blk_w]

/-- The hidden layer. -/
theorem hidden_apply (c : Dev nD) (n : Fin 4096) (j : Fin 64) : (dat V c).arrAt 6 cfg0.N (ix2 n j)
    = PhaseOne.layer (V c main_arg0) (PhaseOne.mixed (V c main_arg1) (V c main_arg2) (V c main_arg3)) (fun j => V c main_v7 (ix2 0 j)) n j := by
  rw [array6, PhaseOne.hid_apply]
  simp only [PhaseOne.layer, blk_A, blk_o, kept_apply]

/-- The codes of the mixed adjacency. -/
theorem codes_apply (c : Dev nD) (b : Fin 2) (n k : Fin 4096) : (dat V c).arrAt 7 cfg0.N (ix3 b n k)
    = code (PhaseOne.blend (V c main_v6) (V c main_arg0) b n k) := by
  rw [array7, PhaseOne.cod_apply, PhaseOne.blend, Fin.sum_univ_four]
  simp only [blk_A, blk_v]

end Cert.RegionOne

end
-- ==== Proof.ValueTwo.lean ====
/- What the second call's body computes, entry by entry, over the extended reals. -/
module

public import proofs.«01_k».proof.Proof.PhaseTwo
public import proofs.«01_k».proof.Proof.ValueOne
public import Idealize.ShloMosaic.Lib.IntMxu
public import Idealize.ShloMosaic.Lib.ValueIdxCore

@[expose] public section

set_option maxRecDepth 16384

noncomputable section

namespace Cert.PhaseTwo

open Cert.KernelIdeal Cert.KernelIdeal.Gen
open Idealize.ShloMosaic Idealize.ShloMosaic.TcCoe Idealize.ShloMosaic.Tactic
open scoped BigOperators
open Cert.Code

/-- The hidden layer's projection by one basis. -/
def proj (h : Vec Ideal S4096x64 .f32) (w : Vec Ideal S2x64x64 .f32) (b : Fin 2) (m : Fin 4096) (o : Fin 64) : EReal :=
  ∑ i : Fin 64, h (ix2 m i) * w (ix3 b i o)

/-- The largest magnitude of a projection, and no less than a tiny number. -/
def peak (P : Fin 4096 → Fin 64 → EReal) : EReal :=
  max (Finset.fold max (Ideal.ofBits FTy.f32 4286578688#32) (fun x : Fin 4096 × Fin 64 => FloatOps.absf (F := Ideal) (φ := .f32) (P x.1 x.2)) Finset.univ)
    (Ideal.ofBits FTy.f32 228737632#32)

theorem peak_zero (h : Vec Ideal S4096x64 .f32) (w : Vec Ideal S2x64x64 .f32) :
    k1_pay7 (View.ld h rH) (View.ld w rW0) = peak (proj h w 0) := by
  pointwise [k1_pay7, k1_pay6, k1_pay5, peak, proj]

theorem peak_one (h : Vec Ideal S4096x64 .f32) (w : Vec Ideal S2x64x64 .f32) :
    k1_pay1 (k1_pay11 (View.ld h rH) (View.ld w rW1)) = peak (proj h w 1) := by
  pointwise [k1_pay1, k1_pay11, k1_pay10, k1_pay5, peak, proj]

theorem proj_zero (h : Vec Ideal S4096x64 .f32) (w : Vec Ideal S2x64x64 .f32) (m : Fin 4096) (o : Fin 64) :
    k1_pay6 (View.ld h rH) (View.ld w rW0) (ix2 m o) = proj h w 0 m o := by
  pointwise [k1_pay6, k1_pay5, proj]

theorem proj_one (h : Vec Ideal S4096x64 .f32) (w : Vec Ideal S2x64x64 .f32) (m : Fin 4096) (o : Fin 64) :
    k1_pay10 (View.ld h rH) (View.ld w rW1) (ix2 m o) = proj h w 1 m o := by
  pointwise [k1_pay10, k1_pay5, proj]

/-- The kernel's quantiser at an entry. -/
theorem code_apply (Y : FVec Ideal S4096x64 .f32) (z : Fin 1) (m : Fin 4096) (o : Fin 64) :
    shapeCast S1x4096x64 (fptosi 8 (addf Y (select (cmpf .oge Y (broadcast S4096x64 (Scalar.ofBits .f32 0x00000000#32))) (broadcast S4096x64 (Scalar.ofBits .f32 0x3F000000#32))
        (broadcast S4096x64 (Scalar.ofBits .f32 0xBF000000#32))))) shapeCasts_S4096x64_S1x4096x64 (ix3 z m o) = code (Y (ix2 m o)) := by
  pointwise [code]

/-- The product it is given. -/
theorem scaled_apply (P : FVec Ideal S4096x64 .f32) (M : Ideal .f32) (m : Fin 4096) (o : Fin 64) :
    mulf P (broadcast S4096x64 (Scalar.divf (F := Ideal) (Scalar.ofBits .f32 0x42FE0000#32) M)) (ix2 m o)
      = P (ix2 m o) * Ideal.div (Ideal.ofBits FTy.f32 1123942400#32) M := by
  pointwise []

/-- The codes of the first basis's projections. -/
theorem codes_zero (h : Vec Ideal S4096x64 .f32) (w : Vec Ideal S2x64x64 .f32) (z : Fin 1) (m : Fin 4096) (o : Fin 64) :
    k1_pay8 (View.ld h rH) (View.ld w rW0) (ix3 z m o)
      = code (proj h w 0 m o * Ideal.div (Ideal.ofBits FTy.f32 1123942400#32) (peak (proj h w 0))) := by
  rw [← peak_zero, ← proj_zero, ← scaled_apply]
  exact code_apply _ z m o

/-- The codes of the second basis's projections. -/
theorem codes_one (h : Vec Ideal S4096x64 .f32) (w : Vec Ideal S2x64x64 .f32) (z : Fin 1) (m : Fin 4096) (o : Fin 64) :
    k1_pay2 (k1_pay10 (View.ld h rH) (View.ld w rW1)) (k1_pay11 (View.ld h rH) (View.ld w rW1)) (ix3 z m o)
      = code (proj h w 1 m o * Ideal.div (Ideal.ofBits FTy.f32 1123942400#32) (peak (proj h w 1))) := by
  rw [← peak_one, ← proj_one, ← scaled_apply]
  exact code_apply _ z m o

/-- The codes of the projections. -/
theorem prj_apply (h : Vec Ideal S4096x64 .f32) (w : Vec Ideal S2x64x64 .f32) (b : Fin 2) (m : Fin 4096) (o : Fin 64) :
    prj h w (ix3 b m o) = code (proj h w b m o * Ideal.div (Ideal.ofBits FTy.f32 1123942400#32) (peak (proj h w b))) := by
  let G : S2x4096x64.Idx → BitVec 8 := fun y =>
    code (proj h w (y 0) (y 1) (y 2) * Ideal.div (Ideal.ofBits FTy.f32 1123942400#32) (peak (proj h w (y 0))))
  refine View.canon_apply_of_pieces G (prjL h w) ?_ (ix3 b m o) (prj_cover h w _)
  intro p hp
  simp only [prjL, List.mem_cons, List.mem_nil_iff, or_false] at hp
  rcases hp with rfl | rfl <;> refine PhaseOne.slab_eq (by decide) _ G ?_ <;> intro z i j
  · exact codes_one h w z i j
  · exact codes_zero h w z i j

/-- The scales kept for the codes' products. -/
theorem scl_zero (h : Vec Ideal S4096x64 .f32) (w : Vec Ideal S2x64x64 .f32) (s : Vec Ideal S1x2 .f32) :
    cell (scl h w s) rA0 numel1_S1x1 = s (ix2 0 0) * peak (proj h w 0) * ((1 / 16129 : ℝ) : EReal) := by
  rw [cell_zero, ← peak_zero, ← kappa]
  pointwise [k1_pay9]

theorem scl_one (h : Vec Ideal S4096x64 .f32) (w : Vec Ideal S2x64x64 .f32) (s : Vec Ideal S1x2 .f32) :
    cell (scl h w s) rA1 numel1_S1x1 = s (ix2 0 1) * peak (proj h w 1) * ((1 / 16129 : ℝ) : EReal) := by
  rw [cell_one, ← peak_one, ← kappa]
  pointwise [k1_pay3]

/-! ## The output block -/

/-- The integer product of two arrays of codes, exact at this chip's bound. -/
theorem product_toInt (L : IVec S512x4096 8) (R : IVec S4096x64 8) (i : Fin 512) (j : Fin 64) :
    (matmulI8 IntMxuNumerics.v5e dot_S512x4096_S4096x64_S512x64_1_0_0_1_n_n L R (constantI S512x64 32 0#32) (ix2 i j)).toInt
      = ∑ k : Fin 4096, (L (ix2 i k)).toInt * (R (ix2 k j)).toInt := by
  rw [matmulI8_toInt _ _ _ _ _ _ rfl ((absDotI8_le_numel _ _ _ _).trans (by decide))]
  unfold dotI8
  refine (Fintype.sum_equiv (ValueIdx.contrEquiv1 dot_S512x4096_S4096x64_S512x64_1_0_0_1_n_n 4096 rfl rfl) _ _ fun k => ?_)
  congr 2
  · refine congrArg L (funext fun a => ?_)
    match a with
    | ⟨0, _⟩ => rfl
    | ⟨1, _⟩ => rfl
  · refine congrArg R (funext fun a => ?_)
    match a with
    | ⟨0, _⟩ => rfl
    | ⟨1, _⟩ => rfl

/-- Two integer products, each at its scale, and the bias. -/
theorem mix_apply (q0 q1 : Vec Ideal S1x512x4096 .i8) (p0 p1 : Vec Ideal S1x4096x64 .i8) (z0 z1 : Ideal .f32) (b : Vec Ideal S1x64 .f32)
    (i : Fin 512) (j : Fin 64) : k1_pay4 q0 p0 z0 q1 p1 z1 b (ix2 i j)
      = (((∑ k : Fin 4096, (q0 (ix3 0 i k)).toInt * (p0 (ix3 0 k j)).toInt : ℤ) : ℝ) : EReal) * z0
        + (((∑ k : Fin 4096, (q1 (ix3 0 i k)).toInt * (p1 (ix3 0 k j)).toInt : ℤ) : ℝ) : EReal) * z1 + b (ix2 0 j) := by
  have eq (q : Vec Ideal S1x512x4096 .i8) (k : Fin 4096) :
      shapeCast S512x4096 q shapeCasts_S1x512x4096_S512x4096 (ix2 i k) = q (ix3 0 i k) := by pointwise []
  have ep (p : Vec Ideal S1x4096x64 .i8) (k : Fin 4096) :
      shapeCast S4096x64 p shapeCasts_S1x4096x64_S4096x64 (ix2 k j) = p (ix3 0 k j) := by pointwise []
  have em (q : Vec Ideal S1x512x4096 .i8) (p : Vec Ideal S1x4096x64 .i8) := product_toInt
    (shapeCast S512x4096 q shapeCasts_S1x512x4096_S512x4096) (shapeCast S4096x64 p shapeCasts_S1x4096x64_S4096x64) i j
  simp only [eq, ep] at em
  rw [← em, ← em]
  unfold k1_pay4
  generalize matmulI8 IntMxuNumerics.v5e dot_S512x4096_S4096x64_S512x64_1_0_0_1_n_n (shapeCast S512x4096 q0 _) (shapeCast S4096x64 p0 _) _ = P
  generalize matmulI8 IntMxuNumerics.v5e dot_S512x4096_S4096x64_S512x64_1_0_0_1_n_n (shapeCast S512x4096 q1 _) (shapeCast S4096x64 p1 _) _ = Q
  pointwise []
  rfl

/-- The output block. -/
theorem out_apply (q : Vec Ideal S2x512x4096 .i8) (p : Vec Ideal S2x4096x64 .i8) (z : Vec Ideal S1x2 .f32) (b : Vec Ideal S1x64 .f32)
    (i : Fin 512) (j : Fin 64) : out q p z b (ix2 i j)
      = (((∑ k : Fin 4096, (q (ix3 0 i k)).toInt * (p (ix3 0 k j)).toInt : ℤ) : ℝ) : EReal) * cell z rA0 numel1_S1x1
        + (((∑ k : Fin 4096, (q (ix3 1 i k)).toInt * (p (ix3 1 k j)).toInt : ℤ) : ℝ) : EReal) * cell z rA1 numel1_S1x1 + b (ix2 0 j) := by
  unfold out outL
  rw [View.canon_unit_zero (by decide), mix_apply]
  pointwise []

/-- The second call's result: the codes of the mixed adjacency against the codes of the projections. -/
def whole (q : Vec Ideal S2x4096x4096 .i8) (P : Fin 2 → Fin 4096 → Fin 64 → EReal) (s : Fin 2 → EReal) (o : Fin 64 → EReal)
    (n : Fin 4096) (j : Fin 64) : EReal :=
  (((∑ k : Fin 4096, (q (ix3 0 n k)).toInt
      * (code (P 0 k j * Ideal.div (Ideal.ofBits FTy.f32 1123942400#32) (peak (P 0)))).toInt : ℤ) : ℝ) : EReal) * (s 0 * peak (P 0) * ((1 / 16129 : ℝ) : EReal))
    + (((∑ k : Fin 4096, (q (ix3 1 n k)).toInt
      * (code (P 1 k j * Ideal.div (Ideal.ofBits FTy.f32 1123942400#32) (peak (P 1)))).toInt : ℤ) : ℝ) : EReal) * (s 1 * peak (P 1) * ((1 / 16129 : ℝ) : EReal))
    + o j

end Cert.PhaseTwo

end
-- ==== Proof.ArrayTwo.lean ====
/- The array the second call leaves, entry by entry. -/
module

public import proofs.«01_k».proof.Proof.RegionTwo
public import proofs.«01_k».proof.Proof.ValueTwo
public import Idealize.ShloMosaic.Lib.Pipeline.Value

@[expose] public section

set_option maxRecDepth 16384

noncomputable section

namespace Cert.RegionTwo

open Cert.KernelIdeal Cert.KernelIdeal.Gen
open Idealize.ShloMosaic Idealize.ShloMosaic.TcCoe
open Cert.Code
open scoped BigOperators

variable (V : (c : Dev nD) → (b : Ref sig .tc) → Buf (Elt Ideal) ((c : Thread nD τ).loc b))

/-! ## Where the blocks lie -/

theorem at0 : ∀ t : Fin cfg1.N, win1_0.index t (0 : Fin 3) = 0 ∧ win1_0.index t (1 : Fin 3) = t.val ∧ win1_0.index t (2 : Fin 3) = 0 :=
  (by decide +kernel : ∀ t : Fin grid1.N, _)
theorem at1 : ∀ t : Fin cfg1.N, win1_1.index t (0 : Fin 2) = 0 ∧ win1_1.index t (1 : Fin 2) = 0 :=
  (by decide +kernel : ∀ t : Fin grid1.N, _)
theorem at2 : ∀ t : Fin cfg1.N, win1_2.index t (0 : Fin 3) = 0 ∧ win1_2.index t (1 : Fin 3) = 0 ∧ win1_2.index t (2 : Fin 3) = 0 :=
  (by decide +kernel : ∀ t : Fin grid1.N, _)
theorem at3 : ∀ t : Fin cfg1.N, win1_3.index t (0 : Fin 2) = 0 ∧ win1_3.index t (1 : Fin 2) = 0 :=
  (by decide +kernel : ∀ t : Fin grid1.N, _)
theorem at4 : ∀ t : Fin cfg1.N, win1_4.index t (0 : Fin 2) = 0 ∧ win1_4.index t (1 : Fin 2) = 0 :=
  (by decide +kernel : ∀ t : Fin grid1.N, _)
theorem at5 : ∀ t : Fin cfg1.N, win1_5.index t (0 : Fin 2) = t.val ∧ win1_5.index t (1 : Fin 2) = 0 :=
  (by decide +kernel : ∀ t : Fin grid1.N, _)

/-- The point whose block holds row `n`, and the row's place in it. -/
def pt (n : Fin 4096) : Fin cfg1.N := ⟨n.val / 512, by have h : cfg1.N = 8 := N_1; omega⟩
def loc (n : Fin 4096) : Fin 512 := ⟨n.val % 512, Nat.mod_lt _ (by decide)⟩

/-! ## The blocks read -/

theorem blk_q (c : Dev nD) (n : Fin 4096) (b : Fin 2) (k : Fin 4096) : blk V c 0 (pt n) (ix3 b (loc n) k) = V c main_v8_1 (ix3 b n k) := by
  obtain ⟨e0, e1, e2⟩ := at0 (pt n)
  refine congrArg (V c main_v8_1) (funext fun a => Fin.ext ?_)
  match a with
  | ⟨0, _⟩ => show win1_0.index (pt n) (0 : Fin 3) * 2 + 1 * b.val = b.val; omega
  | ⟨1, _⟩ => show win1_0.index (pt n) (1 : Fin 3) * 512 + 1 * (n.val % 512) = n.val; rw [e1]; show n.val / 512 * 512 + _ = _; omega
  | ⟨2, _⟩ => show win1_0.index (pt n) (2 : Fin 3) * 4096 + 1 * k.val = k.val; omega

theorem blk_h (c : Dev nD) (t : Fin cfg1.N) (i : Fin 4096) (j : Fin 64) : blk V c 1 t (ix2 i j) = V c main_v8_0 (ix2 i j) := by
  obtain ⟨e0, e1⟩ := at1 t
  refine congrArg (V c main_v8_0) (funext fun a => Fin.ext ?_)
  match a with
  | ⟨0, _⟩ => show win1_1.index t (0 : Fin 2) * 4096 + 1 * i.val = i.val; omega
  | ⟨1, _⟩ => show win1_1.index t (1 : Fin 2) * 64 + 1 * j.val = j.val; omega

theorem blk_w (c : Dev nD) (t : Fin cfg1.N) (b : Fin 2) (i : Fin 64) (j : Fin 64) : blk V c 2 t (ix3 b i j) = V c main_arg5 (ix3 b i j) := by
  obtain ⟨e0, e1, e2⟩ := at2 t
  refine congrArg (V c main_arg5) (funext fun a => Fin.ext ?_)
  match a with
  | ⟨0, _⟩ => show win1_2.index t (0 : Fin 3) * 2 + 1 * b.val = b.val; omega
  | ⟨1, _⟩ => show win1_2.index t (1 : Fin 3) * 64 + 1 * i.val = i.val; omega
  | ⟨2, _⟩ => show win1_2.index t (2 : Fin 3) * 64 + 1 * j.val = j.val; omega

theorem blk_s (c : Dev nD) (t : Fin cfg1.N) (i : Fin 1) (j : Fin 2) : blk V c 3 t (ix2 i j) = V c main_v9 (ix2 i j) := by
  obtain ⟨e0, e1⟩ := at3 t
  refine congrArg (V c main_v9) (funext fun a => Fin.ext ?_)
  match a with
  | ⟨0, _⟩ => show win1_3.index t (0 : Fin 2) * 1 + 1 * i.val = i.val; omega
  | ⟨1, _⟩ => show win1_3.index t (1 : Fin 2) * 2 + 1 * j.val = j.val; omega

theorem blk_o (c : Dev nD) (t : Fin cfg1.N) (i : Fin 1) (j : Fin 64) : blk V c 4 t (ix2 i j) = V c main_v10 (ix2 i j) := by
  obtain ⟨e0, e1⟩ := at4 t
  refine congrArg (V c main_v10) (funext fun a => Fin.ext ?_)
  match a with
  | ⟨0, _⟩ => show win1_4.index t (0 : Fin 2) * 1 + 1 * i.val = i.val; omega
  | ⟨1, _⟩ => show win1_4.index t (1 : Fin 2) * 64 + 1 * j.val = j.val; omega

/-! ## The array written -/

theorem apart5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (Fin.ext ((at5 t).1.symm.trans ((congrFun h (0 : Fin 2)).trans (at5 t').1)))

theorem emb5 (n : Fin 4096) (j : Fin 64) : ((cfg1.win 5).blk (pt n)).view.emb (ix2 (loc n) j) = (ix2 n j : S4096x64.Idx) := by
  obtain ⟨e0, e1⟩ := at5 (pt n)
  refine funext fun a => Fin.ext ?_
  match a with
  | ⟨0, _⟩ => show win1_5.index (pt n) (0 : Fin 2) * 512 + 1 * (n.val % 512) = n.val; rw [e0]; show n.val / 512 * 512 + _ = _; omega
  | ⟨1, _⟩ => show win1_5.index (pt n) (1 : Fin 2) * 64 + 1 * j.val = j.val; omega

theorem array5 (c : Dev nD) (n : Fin 4096) (j : Fin 64) : (dat V c).arrAt 5 cfg1.N (ix2 n j)
    = PhaseTwo.out (blk V c 0 (pt n)) (kept_p V c) (kept_z V c) (blk V c 4 (pt n)) (ix2 (loc n) j) := by
  have h := congrFun ((dat V c).read_blk_arrAt_eq_flushed 5 apart5 cfg1.N (pt n) (pt n).isLt (flush1_5 _)) (ix2 (loc n) j)
  rw [← after_5, ← emb5]
  exact h

/-- The projections, as the second call makes them. -/
theorem proj_eq (c : Dev nD) : PhaseTwo.proj (blk V c 1 start) (blk V c 2 start) = PhaseTwo.proj (V c main_v8_0) (V c main_arg5) := by
  funext b m o
  simp only [PhaseTwo.proj, blk_h, blk_w]

/-- The second call's result. -/
theorem result_apply (c : Dev nD) (n : Fin 4096) (j : Fin 64) : (dat V c).arrAt 5 cfg1.N (ix2 n j)
    = PhaseTwo.whole (V c main_v8_1) (PhaseTwo.proj (V c main_v8_0) (V c main_arg5)) (fun b => V c main_v9 (ix2 0 b))
        (fun j => V c main_v10 (ix2 0 j)) n j := by
  rw [array5, PhaseTwo.out_apply]
  unfold kept_p kept_z
  rw [PhaseTwo.scl_zero, PhaseTwo.scl_one]
  simp only [PhaseTwo.whole, PhaseTwo.prj_apply, proj_eq, blk_q, blk_s, blk_o]

end Cert.RegionTwo

end
-- ==== Proof.Result.lean ====
/- What the kernel's result holds, entry by entry, in the arguments. -/
module

public import proofs.«01_k».proof.Proof.Host
public import proofs.«01_k».proof.Proof.ArrayOne
public import proofs.«01_k».proof.Proof.ArrayTwo
public import proofs.«01_k».proof.Proof.Term

@[expose] public section

set_option maxRecDepth 16384

noncomputable section

namespace Cert.Whole

open Cert.KernelIdeal Cert.KernelIdeal.Gen Cert.Code
open Idealize.ShloMosaic Idealize.ShloMosaic.TcCoe
open scoped BigOperators

variable (m : (ℓ : Loc nD τ sig) → Buf (Elt Ideal) ℓ) (c : Dev nD)

/-- A hidden layer projected onto a basis. -/
def projected (H : Fin 4096 → Fin 64 → EReal) (w : Vec Ideal S2x64x64 .f32) (b : Fin 2) (k : Fin 4096) (j : Fin 64) : EReal :=
  ∑ i : Fin 64, w (ix3 b i j) * H k i

/-- A basis's share of a result entry, for either form of the share. -/
def part (F : ∀ {n : Nat}, EReal → EReal → (Fin 4 → EReal) → (Fin 4 → Fin n → EReal) → (Fin n → EReal) → EReal)
    (A : Vec Ideal S4x4096x4096 .f32) (w : Vec Ideal S4x2 .f32) (P : Fin 2 → Fin 4096 → Fin 64 → EReal) (b : Fin 2)
    (n : Fin 4096) (j : Fin 64) : EReal :=
  F (weight w b) (PhaseTwo.peak (P b)) (fun r => w (ix2 r b)) (fun r k => A (ix3 r n k)) (fun k => P b k j)

/-- A basis's blend of the adjacencies, at the scale of the codes. -/
def blended (w : Vec Ideal S4x2 .f32) (A : Vec Ideal S4x4096x4096 .f32) (b : Fin 2) (n k : Fin 4096) : EReal :=
  ∑ r : Fin 4, scaled w r b * A (ix3 r n k)

/-- The second call's result, its codes being those of the blended adjacencies. -/
theorem whole_eq (w : Vec Ideal S4x2 .f32) (A : Vec Ideal S4x4096x4096 .f32) (q : Vec Ideal S2x4096x4096 .i8)
    (P : Fin 2 → Fin 4096 → Fin 64 → EReal) (s : Fin 2 → EReal) (o : Fin 64 → EReal)
    (hq : ∀ b n k, q (ix3 b n k) = code (blended w A b n k)) (hs : ∀ b, s b = weight w b) (n : Fin 4096) (j : Fin 64) :
    PhaseTwo.whole q P s o n j = part fused A w P 0 n j + part fused A w P 1 n j + o j := by
  unfold PhaseTwo.whole part fused
  simp only [hq, hs]
  rfl

/-- The hidden layer the kernel computes. -/
def hidden (n : Fin 4096) (j : Fin 64) : EReal :=
  PhaseOne.layer (m ((c : Thread nD τ).loc main_arg0))
    (PhaseOne.mixed (m ((c : Thread nD τ).loc main_arg1)) (m ((c : Thread nD τ).loc main_arg2)) (m ((c : Thread nD τ).loc main_arg3)))
    (fun j => m ((c : Thread nD τ).loc main_arg4) (ix1 j)) n j

theorem V3_hidden (n : Fin 4096) (j : Fin 64) : V3 m c main_v8_0 (ix2 n j) = hidden m c n j := by
  have h : V3 m c main_v8_0 = (RegionOne.dat (V1 m) c).arrAt 6 cfg0.N :=
    (W3_kept m c main_v8_0 (by decide)).trans (W2_array m c 6)
  rw [h, RegionOne.hidden_apply]
  unfold hidden
  rw [show V1 m c main_arg0 = _ from W1_args m c main_arg0 (by decide), show V1 m c main_arg1 = _ from W1_args m c main_arg1 (by decide),
    show V1 m c main_arg2 = _ from W1_args m c main_arg2 (by decide), show V1 m c main_arg3 = _ from W1_args m c main_arg3 (by decide),
    show (fun j => V1 m c main_v7 (ix2 0 j)) = _ from funext (W1_v7 m c)]

theorem V3_codes (b : Fin 2) (n k : Fin 4096) : V3 m c main_v8_1 (ix3 b n k)
    = code (blended (m ((c : Thread nD τ).loc main_arg6)) (m ((c : Thread nD τ).loc main_arg0)) b n k) := by
  have h : V3 m c main_v8_1 = (RegionOne.dat (V1 m) c).arrAt 7 cfg0.N :=
    (W3_kept m c main_v8_1 (by decide)).trans (W2_array m c 7)
  rw [h, RegionOne.codes_apply]
  unfold PhaseOne.blend blended
  rw [show V1 m c main_arg0 = _ from W1_args m c main_arg0 (by decide)]
  congr 1
  refine Finset.sum_congr rfl fun r _ => ?_
  rw [show V1 m c main_v6 (ix2 r b) = _ from W1_v6 m c r b]

/-- The kernel's projection is the reference's of the kernel's hidden layer. -/
theorem proj_eq : PhaseTwo.proj (V3 m c main_v8_0) (V3 m c main_arg5) = projected (hidden m c) (m ((c : Thread nD τ).loc main_arg5)) := by
  rw [show V3 m c main_arg5 = _ from W3_args m c main_arg5 (by decide)]
  funext b k j
  exact Finset.sum_congr rfl fun i _ => (congrArg (HMul.hMul (β := EReal) · _) (V3_hidden m c k i)).trans (mul_comm _ _)

theorem result_apply (n : Fin 4096) (j : Fin 64) : V4 m c main_v11 (ix2 n j)
    = part fused (m ((c : Thread nD τ).loc main_arg0)) (m ((c : Thread nD τ).loc main_arg6))
          (projected (hidden m c) (m ((c : Thread nD τ).loc main_arg5))) 0 n j
        + part fused (m ((c : Thread nD τ).loc main_arg0)) (m ((c : Thread nD τ).loc main_arg6))
          (projected (hidden m c) (m ((c : Thread nD τ).loc main_arg5))) 1 n j
        + (show EReal from m ((c : Thread nD τ).loc main_arg7) (ix1 j)) := by
  have h : V4 m c main_v11 = (RegionTwo.dat (V3 m) c).arrAt 5 cfg1.N := W4_array m c 5
  rw [h, RegionTwo.result_apply, proj_eq]
  rw [whole_eq _ _ _ _ _ _ (V3_codes m c) (W3_v9 m c), show V3 m c main_v10 (ix2 0 j) = _ from W3_v10 m c j]

end Cert.Whole

end
-- ==== Proof.Layer.lean ====
/- The first layer: projecting before the adjacencies are applied, as the kernel does, or after, as the reference does. -/
module

public import proofs.«01_k».proof.Proof.ValueOne
public import proofs.«01_k».proof.Proof.Term

@[expose] public section

set_option maxRecDepth 16384

noncomputable section

namespace Cert.PhaseOne

open Cert.KernelIdeal Cert.Code
open Idealize.ShloMosaic
open scoped BigOperators

/-- One relation, over the reals. -/
theorem relation_real {K I B : Nat} (a : Fin K → ℝ) (x : Fin K → Fin I → ℝ) (w : Fin B → ℝ) (u : Fin B → Fin I → ℝ) :
    ∑ k, a k * ∑ b, w b * ∑ i, x k i * u b i = ∑ i, (∑ k, a k * x k i) * ∑ b, w b * u b i := by
  calc _ = ∑ k, ∑ i, ∑ b, a k * (w b * (x k i * u b i)) := by
        simp only [Finset.mul_sum]
        exact Finset.sum_congr rfl fun k _ => Finset.sum_comm
    _ = ∑ i, ∑ k, ∑ b, a k * (w b * (x k i * u b i)) := Finset.sum_comm
    _ = _ := by
        simp only [Finset.sum_mul_sum]
        exact Finset.sum_congr rfl fun i _ => Finset.sum_congr rfl fun k _ => Finset.sum_congr rfl fun b _ => by ring

/-- The reference's hidden layer: the relations' supports first, then the mixed weights. -/
def supported (A : Vec Ideal S4x4096x4096 .f32) (x : Vec Ideal S4096x128 .f32) (u : Vec Ideal S2x128x64 .f32) (w : Vec Ideal S4x2 .f32)
    (o : Fin 64 → EReal) (n : Fin 4096) (j : Fin 64) : EReal :=
  max (∑ i : Fin 128, ∑ r : Fin 4, (∑ k : Fin 4096, A (ix3 r n k) * x (ix2 k i)) * (∑ b : Fin 2, w (ix2 r b) * u (ix3 b i j)) + o j) 0

theorem layer_eq (A : Vec Ideal S4x4096x4096 .f32) (x : Vec Ideal S4096x128 .f32) (u : Vec Ideal S2x128x64 .f32) (w : Vec Ideal S4x2 .f32)
    (o : Fin 64 → EReal) (hA : ∀ r n k, ∃ y : ℝ, A (ix3 r n k) = (y : EReal)) (hx : ∀ k i, ∃ y : ℝ, x (ix2 k i) = (y : EReal))
    (hu : ∀ b i j, ∃ y : ℝ, u (ix3 b i j) = (y : EReal)) (hw : ∀ r b, ∃ y : ℝ, w (ix2 r b) = (y : EReal)) (n : Fin 4096) (j : Fin 64) :
    layer A (mixed x u w) o n j = supported A x u w o n j := by
  choose A' eA using hA
  choose x' ex using hx
  choose u' eu using hu
  choose w' ew using hw
  have hr := fun r : Fin 4 => relation_real (A' r n) x' (w' r) (fun b i => u' b i j)
  unfold layer supported
  congr 2
  simp only [mixed, eA, ex, eu, ew, ← EReal.coe_mul, ← EReal.coe_add, ← coe_sum]
  rw [Finset.sum_comm, ← Finset.sum_congr rfl fun r _ => hr r]
  simp only [Fin.sum_univ_four, Fin.sum_univ_two]

end Cert.PhaseOne

end
-- ==== Proof.Reference.lean ====
/- What the reference's result holds, entry by entry, in the arguments. -/
module

public import proofs.«01_k».proof.Proof.Result
public import proofs.«01_k».proof.Proof.Layer
public import proofs.«01_k».proof.Proof.Gen.ReferenceIdeal.Run
public import Idealize.ShloMosaic.Lib.Pointwise
public import Idealize.ShloMosaic.PureOps.Ideal.Laws

@[expose] public section

set_option maxRecDepth 16384

noncomputable section

namespace Cert.Reference

open Cert.ReferenceIdeal Cert.ReferenceIdeal.Gen Cert.ReferenceIdeal.Value Cert.Code
open Idealize.ShloMosaic Idealize.ShloMosaic.TcCoe
open scoped BigOperators

variable (m : (ℓ : Loc nD τ sig) → Buf (Elt Ideal) ℓ) (c : Dev nD)

/-- The hidden layer the reference computes. -/
def hidden (n : Fin 4096) (j : Fin 64) : EReal :=
  PhaseOne.supported (m ((c : Thread nD τ).loc main_arg0)) (m ((c : Thread nD τ).loc main_arg1)) (m ((c : Thread nD τ).loc main_arg2))
    (m ((c : Thread nD τ).loc main_arg3)) (fun j => m ((c : Thread nD τ).loc main_arg4) (ix1 j)) n j

theorem result_apply (n : Fin 4096) (j : Fin 64) : res_main_v37 m c (ix2 n j)
    = (∑ b : Fin 2, Whole.part plain (m ((c : Thread nD τ).loc main_arg0)) (m ((c : Thread nD τ).loc main_arg6))
          (Whole.projected (hidden m c) (m ((c : Thread nD τ).loc main_arg5))) b n j)
        + (show EReal from m ((c : Thread nD τ).loc main_arg7) (ix1 j)) := by
  pointwise [res_main_v37]
  rfl

end Cert.Reference

end
-- ==== Proof.Equal.lean ====
/- The kernel and the reference compute one array. -/
module

public import proofs.«01_k».proof.Defs
public import proofs.«01_k».proof.Proof.Finite
public import proofs.«01_k».proof.Proof.Reference

@[expose] public section

set_option maxRecDepth 16384

noncomputable section

namespace Cert.Proof

open Cert.Code
open Idealize.ShloMosaic Idealize.ShloMosaic.TcCoe Idealize.SL.Sem
open scoped BigOperators

theorem peak_pos (P : Fin 4096 → Fin 64 → EReal) : 0 < PhaseTwo.peak P := lt_max_of_lt_right tiny_pos

theorem le_largest {α : Type} [Fintype α] (b : EReal) (f : α → EReal) (x : α) : f x ≤ Finset.fold max b f Finset.univ :=
  (Finset.le_fold_max _).mpr (.inr ⟨x, Finset.mem_univ x, le_rfl⟩)

theorem le_peak (P : Fin 4096 → Fin 64 → EReal) (k : Fin 4096) (j : Fin 64) : max (P k j) (-P k j) ≤ PhaseTwo.peak P := by
  have h := le_largest (Ideal.ofBits FTy.f32 4286578688#32)
    (fun x : Fin 4096 × Fin 64 => FloatOps.absf (F := Ideal) (φ := .f32) (P x.1 x.2)) (k, j)
  unfold PhaseTwo.peak
  exact le_max_of_le_left h

/-- A basis's share is the same in codes and in rounded numbers. -/
theorem part_eq (A : Vec Ideal Cert.KernelIdeal.S4x4096x4096 .f32) (hA : ∀ r n k, ∃ y : ℝ, A (ix3 r n k) = (y : EReal))
    (w : Vec Ideal Cert.KernelIdeal.S4x2 .f32) (P : Fin 2 → Fin 4096 → Fin 64 → EReal) (b : Fin 2) (n : Fin 4096) (j : Fin 64) :
    Whole.part fused A w P b n j = Whole.part plain A w P b n j :=
  share _ _ (peak_pos _) _ rfl _ (fun r k => hA r n k) _ fun k => le_peak (P b) k j

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments at core `c` are the kernel's. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

theorem hidden_eq (h : Cert.Pre_KernelIdeal_finite m) (c : Dev Cert.KernelIdeal.nD) (e : Same m m' c) :
    Whole.hidden m c = Reference.hidden m' c := by
  obtain ⟨e0, e1, e2, e3, e4, -⟩ := e
  funext n j
  unfold Whole.hidden Reference.hidden
  rw [e0, e1, e2, e3, e4]
  exact PhaseOne.layer_eq _ _ _ _ _ (Finite.real_A m h c) (Finite.real_x m h c) (Finite.real_b m h c) (Finite.real_w m h c) n j

theorem result_eq (h : Cert.Pre_KernelIdeal_finite m) (c : Dev Cert.KernelIdeal.nD) (e : Same m m' c) :
    Cert.ReferenceIdeal.Value.res_main_v37 m' c = Whole.V4 m c Cert.KernelIdeal.main_v11 := by
  funext i
  rw [eq_ix2 i]
  refine (Reference.result_apply m' c _ _).trans (Eq.trans ?_ (Whole.result_apply m c _ _).symm)
  rw [← hidden_eq m m' h c e]
  obtain ⟨e0, -, -, -, -, e5, e6, e7⟩ := e
  rw [e0, e5, e6, e7, Fin.sum_univ_two]
  exact congrArg₂ (· + ·) (congrArg₂ (· + ·) (part_eq _ (Finite.real_A m h c) _ _ 0 _ _).symm (part_eq _ (Finite.real_A m h c) _ _ 1 _ _).symm) rfl

theorem algebraic : Cert.algebraic_KernelIdeal_ReferenceIdeal_pre_finite := fun m g m' g' h e =>
  ⟨fun c => Whole.V4 m c Cert.KernelIdeal.main_v11,
    (θ_run Cert.KernelIdeal.defs _ _).mono
      (fun _ hr c => ⟨hr.1 c _ (Whole.mem_uc Cert.KernelIdeal.main_v11 (by decide)), Whole.end_args m c (hr.1 c)⟩) (Whole.run m g),
    (θ_run Cert.ReferenceIdeal.defs _ _).mono
      (fun _ hr c => ⟨(hr c).1.trans (result_eq m m' h c (e c)), (hr c).2⟩) (Cert.ReferenceIdeal.Value.run m' g')⟩

end Cert.Proof

end
-- ==== Proof.lean ====
/- Everything claimed about the kernel, put together. -/
module

public import proofs.«01_k».proof.Defs
public import proofs.«01_k».proof.Proof.Frames
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, inferInstance,
    frame_kernel, frame_ideal, frame_ideal_finite, frame_reference, frame_reference_finite, preserves, algebraic⟩

end Cert.Proof

end
